-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S2x1024x2048 : Shape := ⟨3, ![2, 1024, 2048]⟩
abbrev S4x1024x2048 : Shape := ⟨3, ![4, 1024, 2048]⟩
abbrev S4x8x128 : Shape := ⟨3, ![4, 8, 128]⟩
abbrev S1024x2048 : Shape := ⟨2, ![1024, 2048]⟩
abbrev S2 : Shape := ⟨1, ![2]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩
abbrev S1x1x1 : Shape := ⟨3, ![1, 1, 1]⟩
abbrev S1x1024x2048 : Shape := ⟨3, ![1, 1024, 2048]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1024x4096, .bf16⟩
  | .hbm, ⟨3, _⟩ => ⟨S4096x2048, .bf16⟩
  | .local _ .vmem, ⟨0, _⟩ => ⟨S1024x4096, .bf16⟩
  | .local _ .vmem, ⟨1, _⟩ => ⟨S2x4096x512, .f32⟩
  | .local _ .vmem, ⟨2, _⟩ => ⟨S2x1024x2048, .bf16⟩
  | .local _ .vmem, ⟨3, _⟩ => ⟨S4x1024x2048, .bf16⟩
  | .local _ .vmem, ⟨4, _⟩ => ⟨S4x8x128, .f32⟩
  | .local _ .vmem, ⟨5, _⟩ => ⟨S1024x2048, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_28 : BitVec 32) (c0_i32_35 : BitVec 32) : Fin 2 → Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let v44 : BitVec 32 := Scalar.addi v43 c0_i32_28
  let c4_i32_29 : BitVec 32 := 4#32
  let c0_i32_30 : BitVec 32 := 0#32
  let v45 : BitVec 1 := Scalar.cmpi .eq c4_i32_29 c0_i32_30
  let c1_i32_31 : BitVec 32 := 1#32
  let v46 : BitVec 32 := Scalar.select v45 c1_i32_31 c4_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c2048_i32 : BitVec 32 := 2048#32
  let v55 : BitVec 32 := Scalar.muli v54 c2048_i32
  let v56 : BitVec 32 := Scalar.addi v55 c0_i32_35
  ![0, v56.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_210 : BitVec 32 := 0#32
  let c0_i32_211 : BitVec 32 := 0#32
  ![v2.toNat, 0, 0]
def k0_dev4 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let v282 : BitVec 32 := Scalar.addi v2 c1_i32_198
  let c0_i32_199 : BitVec 32 := 0#32
  let v283 : BitVec 32 := Scalar.addi v282 c0_i32_199
  let c4_i32_200 : BitVec 32 := 4#32
  let c0_i32_201 : BitVec 32 := 0#32
  let v284 : BitVec 1 := Scalar.cmpi .eq c4_i32_200 c0_i32_201
  let c1_i32_202 : BitVec 32 := 1#32
  let v285 : BitVec 32 := Scalar.select v284 c1_i32_202 c4_i32_200
  let v286 : BitVec 32 := Scalar.remsi v283 v285
  let c0_i32_204 : BitVec 32 := 0#32
  let v288 : BitVec 1 := Scalar.cmpi .slt v286 c0_i32_204
  let c0_i32_205 : BitVec 32 := 0#32
  let v289 : BitVec 1 := Scalar.cmpi .slt v285 c0_i32_205
  let v290 : BitVec 1 := Scalar.xori v288 v289
  let c0_i32_203 : BitVec 32 := 0#32
  let v287 : BitVec 1 := Scalar.cmpi .ne v286 c0_i32_203
  let v291 : BitVec 1 := Scalar.andi v290 v287
  let v292 : BitVec 32 := Scalar.addi v286 v285
  let v293 : BitVec 32 := Scalar.select v291 v292 v286
  let c1_i32_208 : BitVec 32 := 1#32
  let v294 : BitVec 32 := Scalar.muli v293 c1_i32_208
  let v295 : BitVec 32 := Scalar.addi c0_i32_209 v294
  v295.toNat
def k0_dev5 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_378 : BitVec 32 := 1#32
  let v524 : BitVec 32 := Scalar.addi v2 c1_i32_378
  let c1_i32_379 : BitVec 32 := 1#32
  let v525 : BitVec 32 := Scalar.addi v524 c1_i32_379
  let c4_i32_380 : BitVec 32 := 4#32
  let c0_i32_381 : BitVec 32 := 0#32
  let v526 : BitVec 1 := Scalar.cmpi .eq c4_i32_380 c0_i32_381
  let c1_i32_382 : BitVec 32 := 1#32
  let v527 : BitVec 32 := Scalar.select v526 c1_i32_382 c4_i32_380
  let v528 : BitVec 32 := Scalar.remsi v525 v527
  let c0_i32_384 : BitVec 32 := 0#32
  let v530 : BitVec 1 := Scalar.cmpi .slt v528 c0_i32_384
  let c0_i32_385 : BitVec 32 := 0#32
  let v531 : BitVec 1 := Scalar.cmpi .slt v527 c0_i32_385
  let v532 : BitVec 1 := Scalar.xori v530 v531
  let c0_i32_383 : BitVec 32 := 0#32
  let v529 : BitVec 1 := Scalar.cmpi .ne v528 c0_i32_383
  let v533 : BitVec 1 := Scalar.andi v532 v529
  let v534 : BitVec 32 := Scalar.addi v528 v527
  let v535 : BitVec 32 := Scalar.select v533 v534 v528
  let c1_i32_388 : BitVec 32 := 1#32
  let v536 : BitVec 32 := Scalar.muli v535 c1_i32_388
  let v537 : BitVec 32 := Scalar.addi c0_i32_389 v536
  v537.toNat
def k0_dev6 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_573 : BitVec 32 := 1#32
  let v784 : BitVec 32 := Scalar.addi v2 c1_i32_573
  let c2_i32_574 : BitVec 32 := 2#32
  let v785 : BitVec 32 := Scalar.addi v784 c2_i32_574
  let c4_i32_575 : BitVec 32 := 4#32
  let c0_i32_576 : BitVec 32 := 0#32
  let v786 : BitVec 1 := Scalar.cmpi .eq c4_i32_575 c0_i32_576
  let c1_i32_577 : BitVec 32 := 1#32
  let v787 : BitVec 32 := Scalar.select v786 c1_i32_577 c4_i32_575
  let v788 : BitVec 32 := Scalar.remsi v785 v787
  let c0_i32_579 : BitVec 32 := 0#32
  let v790 : BitVec 1 := Scalar.cmpi .slt v788 c0_i32_579
  let c0_i32_580 : BitVec 32 := 0#32
  let v791 : BitVec 1 := Scalar.cmpi .slt v787 c0_i32_580
  let v792 : BitVec 1 := Scalar.xori v790 v791
  let c0_i32_578 : BitVec 32 := 0#32
  let v789 : BitVec 1 := Scalar.cmpi .ne v788 c0_i32_578
  let v793 : BitVec 1 := Scalar.andi v792 v789
  let v794 : BitVec 32 := Scalar.addi v788 v787
  let v795 : BitVec 32 := Scalar.select v793 v794 v788
  let c1_i32_583 : BitVec 32 := 1#32
  let v796 : BitVec 32 := Scalar.muli v795 c1_i32_583
  let v797 : BitVec 32 := Scalar.addi c0_i32_584 v796
  v797.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v858 : Index := Scalar.indexCast v2
  let c0_627 : Index := 0#32
  let c0_628 : Index := 0#32
  ![v858.toNat, 0, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v914 : Index := Scalar.indexCast v2
  let c0_667 : Index := 0#32
  let c512_668 : Index := 512#32
  ![v914.toNat, 0, 512]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v970 : Index := Scalar.indexCast v2
  let c0_707 : Index := 0#32
  let c1024_708 : Index := 1024#32
  ![v970.toNat, 0, 1024]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1007 : Index := Scalar.indexCast v2
  let c0_732 : Index := 0#32
  let c1536_733 : Index := 1536#32
  ![v1007.toNat, 0, 1536]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : Index := Scalar.indexCast v2
  let c0_734 : Index := 0#32
  let c0_735 : Index := 0#32
  ![v1012.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_746 : BitVec 32 := 0#32
  let c0_i32_747 : BitVec 32 := 0#32
  ![v2.toNat, 0, 0]
def k0_dev7 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_736 : BitVec 32 := 1#32
  let v1016 : BitVec 32 := Scalar.addi v2 c1_i32_736
  let c4_i32_737 : BitVec 32 := 4#32
  let c0_i32_738 : BitVec 32 := 0#32
  let v1017 : BitVec 1 := Scalar.cmpi .eq c4_i32_737 c0_i32_738
  let c1_i32_739 : BitVec 32 := 1#32
  let v1018 : BitVec 32 := Scalar.select v1017 c1_i32_739 c4_i32_737
  let v1019 : BitVec 32 := Scalar.remsi v1016 v1018
  let c0_i32_741 : BitVec 32 := 0#32
  let v1021 : BitVec 1 := Scalar.cmpi .slt v1019 c0_i32_741
  let c0_i32_742 : BitVec 32 := 0#32
  let v1022 : BitVec 1 := Scalar.cmpi .slt v1018 c0_i32_742
  let v1023 : BitVec 1 := Scalar.xori v1021 v1022
  let c0_i32_740 : BitVec 32 := 0#32
  let v1020 : BitVec 1 := Scalar.cmpi .ne v1019 c0_i32_740
  let v1024 : BitVec 1 := Scalar.andi v1023 v1020
  let v1025 : BitVec 32 := Scalar.addi v1019 v1018
  let v1026 : BitVec 32 := Scalar.select v1024 v1025 v1019
  let c1_i32_744 : BitVec 32 := 1#32
  let v1027 : BitVec 32 := Scalar.muli v1026 c1_i32_744
  let v1028 : BitVec 32 := Scalar.addi c0_i32_745 v1027
  v1028.toNat
def k0_dev8 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v1037 : BitVec 32 := Scalar.addi v2 c2_i32_750
  let c4_i32_751 : BitVec 32 := 4#32
  let c0_i32_752 : BitVec 32 := 0#32
  let v1038 : BitVec 1 := Scalar.cmpi .eq c4_i32_751 c0_i32_752
  let c1_i32_753 : BitVec 32 := 1#32
  let v1039 : BitVec 32 := Scalar.select v1038 c1_i32_753 c4_i32_751
  let v1040 : BitVec 32 := Scalar.remsi v1037 v1039
  let c0_i32_755 : BitVec 32 := 0#32
  let v1042 : BitVec 1 := Scalar.cmpi .slt v1040 c0_i32_755
  let c0_i32_756 : BitVec 32 := 0#32
  let v1043 : BitVec 1 := Scalar.cmpi .slt v1039 c0_i32_756
  let v1044 : BitVec 1 := Scalar.xori v1042 v1043
  let c0_i32_754 : BitVec 32 := 0#32
  let v1041 : BitVec 1 := Scalar.cmpi .ne v1040 c0_i32_754
  let v1045 : BitVec 1 := Scalar.andi v1044 v1041
  let v1046 : BitVec 32 := Scalar.addi v1040 v1039
  let v1047 : BitVec 32 := Scalar.select v1045 v1046 v1040
  let c1_i32_758 : BitVec 32 := 1#32
  let v1048 : BitVec 32 := Scalar.muli v1047 c1_i32_758
  let v1049 : BitVec 32 := Scalar.addi c0_i32_759 v1048
  v1049.toNat
def k0_dev9 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_764 : BitVec 32 := 3#32
  let v1058 : BitVec 32 := Scalar.addi v2 c3_i32_764
  let c4_i32_765 : BitVec 32 := 4#32
  let c0_i32_766 : BitVec 32 := 0#32
  let v1059 : BitVec 1 := Scalar.cmpi .eq c4_i32_765 c0_i32_766
  let c1_i32_767 : BitVec 32 := 1#32
  let v1060 : BitVec 32 := Scalar.select v1059 c1_i32_767 c4_i32_765
  let v1061 : BitVec 32 := Scalar.remsi v1058 v1060
  let c0_i32_769 : BitVec 32 := 0#32
  let v1063 : BitVec 1 := Scalar.cmpi .slt v1061 c0_i32_769
  let c0_i32_770 : BitVec 32 := 0#32
  let v1064 : BitVec 1 := Scalar.cmpi .slt v1060 c0_i32_770
  let v1065 : BitVec 1 := Scalar.xori v1063 v1064
  let c0_i32_768 : BitVec 32 := 0#32
  let v1062 : BitVec 1 := Scalar.cmpi .ne v1061 c0_i32_768
  let v1066 : BitVec 1 := Scalar.andi v1065 v1062
  let v1067 : BitVec 32 := Scalar.addi v1061 v1060
  let v1068 : BitVec 32 := Scalar.select v1066 v1067 v1061
  let c1_i32_772 : BitVec 32 := 1#32
  let v1069 : BitVec 32 := Scalar.muli v1068 c1_i32_772
  let v1070 : BitVec 32 := Scalar.addi c0_i32_773 v1069
  v1070.toNat
def k0_off10 (d0 : Dev nD) (c1_i32_778 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1079 : BitVec 32 := Scalar.addi v2 c1_i32_778
  let c4_i32_779 : BitVec 32 := 4#32
  let c0_i32_780 : BitVec 32 := 0#32
  let v1080 : BitVec 1 := Scalar.cmpi .eq c4_i32_779 c0_i32_780
  let c1_i32_781 : BitVec 32 := 1#32
  let v1081 : BitVec 32 := Scalar.select v1080 c1_i32_781 c4_i32_779
  let v1082 : BitVec 32 := Scalar.remsi v1079 v1081
  let c0_i32_783 : BitVec 32 := 0#32
  let v1084 : BitVec 1 := Scalar.cmpi .slt v1082 c0_i32_783
  let c0_i32_784 : BitVec 32 := 0#32
  let v1085 : BitVec 1 := Scalar.cmpi .slt v1081 c0_i32_784
  let v1086 : BitVec 1 := Scalar.xori v1084 v1085
  let c0_i32_782 : BitVec 32 := 0#32
  let v1083 : BitVec 1 := Scalar.cmpi .ne v1082 c0_i32_782
  let v1087 : BitVec 1 := Scalar.andi v1086 v1083
  let v1088 : BitVec 32 := Scalar.addi v1082 v1081
  let v1089 : BitVec 32 := Scalar.select v1087 v1088 v1082
  ![v1089.toNat]
def k0_off11 (d0 : Dev nD) (c1_i32_778 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1079 : BitVec 32 := Scalar.addi v2 c1_i32_778
  let c4_i32_779 : BitVec 32 := 4#32
  let c0_i32_780 : BitVec 32 := 0#32
  let v1080 : BitVec 1 := Scalar.cmpi .eq c4_i32_779 c0_i32_780
  let c1_i32_781 : BitVec 32 := 1#32
  let v1081 : BitVec 32 := Scalar.select v1080 c1_i32_781 c4_i32_779
  let v1082 : BitVec 32 := Scalar.remsi v1079 v1081
  let c0_i32_783 : BitVec 32 := 0#32
  let v1084 : BitVec 1 := Scalar.cmpi .slt v1082 c0_i32_783
  let c0_i32_784 : BitVec 32 := 0#32
  let v1085 : BitVec 1 := Scalar.cmpi .slt v1081 c0_i32_784
  let v1086 : BitVec 1 := Scalar.xori v1084 v1085
  let c0_i32_782 : BitVec 32 := 0#32
  let v1083 : BitVec 1 := Scalar.cmpi .ne v1082 c0_i32_782
  let v1087 : BitVec 1 := Scalar.andi v1086 v1083
  let v1088 : BitVec 32 := Scalar.addi v1082 v1081
  let v1089 : BitVec 32 := Scalar.select v1087 v1088 v1082
  let c0_i32_790 : BitVec 32 := 0#32
  let c0_i32_791 : BitVec 32 := 0#32
  ![v1089.toNat, 0, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1176 : Index := Scalar.indexCast v2
  let c0_853 : Index := 0#32
  let c0_854 : Index := 0#32
  ![v1176.toNat, 0, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_858 : BitVec 32 := 1024#32
  let v1191 : BitVec 32 := Scalar.muli v2 c1024_i32_858
  let c0_i32_859 : BitVec 32 := 0#32
  ![v1191.toNat, 0]
def k0_off14 (d0 : Dev nD) (c3_i32_832 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c3_i32_832
  let c4_i32_833 : BitVec 32 := 4#32
  let c0_i32_834 : BitVec 32 := 0#32
  let v1144 : BitVec 1 := Scalar.cmpi .eq c4_i32_833 c0_i32_834
  let c1_i32_835 : BitVec 32 := 1#32
  let v1145 : BitVec 32 := Scalar.select v1144 c1_i32_835 c4_i32_833
  let v1146 : BitVec 32 := Scalar.remsi v1143 v1145
  let c0_i32_837 : BitVec 32 := 0#32
  let v1148 : BitVec 1 := Scalar.cmpi .slt v1146 c0_i32_837
  let c0_i32_838 : BitVec 32 := 0#32
  let v1149 : BitVec 1 := Scalar.cmpi .slt v1145 c0_i32_838
  let v1150 : BitVec 1 := Scalar.xori v1148 v1149
  let c0_i32_836 : BitVec 32 := 0#32
  let v1147 : BitVec 1 := Scalar.cmpi .ne v1146 c0_i32_836
  let v1151 : BitVec 1 := Scalar.andi v1150 v1147
  let v1152 : BitVec 32 := Scalar.addi v1146 v1145
  let v1153 : BitVec 32 := Scalar.select v1151 v1152 v1146
  let c0_i32_865 : BitVec 32 := 0#32
  let c0_i32_866 : BitVec 32 := 0#32
  ![v1153.toNat, 0, 0]
def k0_off15 (d0 : Dev nD) (c3_i32_832 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c3_i32_832
  let c4_i32_833 : BitVec 32 := 4#32
  let c0_i32_834 : BitVec 32 := 0#32
  let v1144 : BitVec 1 := Scalar.cmpi .eq c4_i32_833 c0_i32_834
  let c1_i32_835 : BitVec 32 := 1#32
  let v1145 : BitVec 32 := Scalar.select v1144 c1_i32_835 c4_i32_833
  let v1146 : BitVec 32 := Scalar.remsi v1143 v1145
  let c0_i32_837 : BitVec 32 := 0#32
  let v1148 : BitVec 1 := Scalar.cmpi .slt v1146 c0_i32_837
  let c0_i32_838 : BitVec 32 := 0#32
  let v1149 : BitVec 1 := Scalar.cmpi .slt v1145 c0_i32_838
  let v1150 : BitVec 1 := Scalar.xori v1148 v1149
  let c0_i32_836 : BitVec 32 := 0#32
  let v1147 : BitVec 1 := Scalar.cmpi .ne v1146 c0_i32_836
  let v1151 : BitVec 1 := Scalar.andi v1150 v1147
  let v1152 : BitVec 32 := Scalar.addi v1146 v1145
  let v1153 : BitVec 32 := Scalar.select v1151 v1152 v1146
  let v1203 : Index := Scalar.indexCast v1153
  let c0_871 : Index := 0#32
  let c0_872 : Index := 0#32
  ![v1203.toNat, 0, 0]
def k0_off16 (d0 : Dev nD) (c3_i32_832 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c3_i32_832
  let c4_i32_833 : BitVec 32 := 4#32
  let c0_i32_834 : BitVec 32 := 0#32
  let v1144 : BitVec 1 := Scalar.cmpi .eq c4_i32_833 c0_i32_834
  let c1_i32_835 : BitVec 32 := 1#32
  let v1145 : BitVec 32 := Scalar.select v1144 c1_i32_835 c4_i32_833
  let v1146 : BitVec 32 := Scalar.remsi v1143 v1145
  let c0_i32_837 : BitVec 32 := 0#32
  let v1148 : BitVec 1 := Scalar.cmpi .slt v1146 c0_i32_837
  let c0_i32_838 : BitVec 32 := 0#32
  let v1149 : BitVec 1 := Scalar.cmpi .slt v1145 c0_i32_838
  let v1150 : BitVec 1 := Scalar.xori v1148 v1149
  let c0_i32_836 : BitVec 32 := 0#32
  let v1147 : BitVec 1 := Scalar.cmpi .ne v1146 c0_i32_836
  let v1151 : BitVec 1 := Scalar.andi v1150 v1147
  let v1152 : BitVec 32 := Scalar.addi v1146 v1145
  let v1153 : BitVec 32 := Scalar.select v1151 v1152 v1146
  let c1024_i32_876 : BitVec 32 := 1024#32
  let v1218 : BitVec 32 := Scalar.muli v1153 c1024_i32_876
  let c0_i32_877 : BitVec 32 := 0#32
  ![v1218.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Proto.lean ====
/-
  The protocol of the kernel: which semaphore cells the devices talk through, what each payment on them hands over, what
  every device owes at the start, and the canonical contents of the buffers that travel.

  Device c of the four computes its 1024 rows of x against all of w, one 2048-column group per destination. Group g = 0, 1, 2
  goes to the device g + 1 places ahead; group 3 stays. Every device also sends the largest entry it computed to the three
  others. Before anything is sent, each device signals the three others' barrier cells: that signal hands the receiver the
  signaller's landing places (the receiver's row of the signaller's recv and amax buffers).
-/
module

public import proofs.«01_k».proof.Proof.Gen.KernelIdeal.Frame
public import proofs.«01_k».proof.Proof.Gen.KernelIdeal.Skeleton
public import Idealize.ShloMosaic.Lib.Tactic
public import Idealize.ShloMosaic.Lib.Rounds
public import Idealize.ShloMosaic.Lib.Pipeline.TalkSites
public import Idealize.ShloMosaic.Lib.ValueIdxCore

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.TalkSites (Fam Pay tallyL addL credOf)

variable {F : FTy → Type} [FloatOps F]

/-- The algebra: the pipeline's rounds, the talk protocol's rounds, the local transfers' counters. -/
abbrev UU : Type := UR sig nD τ × (URounds (GSem nD τ sig) ℕ × Counters)

local notation "𝕄" => MT nD τ sig ℕ (Elt F) ℕ UU ℕ

/-- The pipeline's copy and the protocol's. -/
abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb _ (URounds (GSem nD τ sig) ℕ × Counters)).trans embR

/-! ## The buffers and the places in them -/

abbrev x0 : Memref sig .tc .vmem S1024x4096 .bf16 := Memref.whole cc0_stg0_0
abbrev w1 : Memref sig .tc .hbm S4096x8192 .f32 := Memref.whole main_arg1
abbrev o2 : Memref sig .tc .hbm S4096x2048 .bf16 := Memref.whole main_v2
abbrev b3 : Memref sig .tc .vmem S2x4096x512 .f32 := Memref.whole cc0_scratch0
abbrev s4 : Memref sig .tc .vmem S2x1024x2048 .bf16 := Memref.whole cc0_scratch1
abbrev r5 : Memref sig .tc .vmem S4x1024x2048 .bf16 := Memref.whole cc0_scratch2
abbrev a6 : Memref sig .tc .vmem S4x8x128 .f32 := Memref.whole cc0_scratch3
abbrev t7 : Memref sig .tc .vmem S1024x2048 .bf16 := Memref.whole cc0_scratch4

/-- The device k places ahead of c. -/
def rot (k : ℕ) (c : Dev nD) : Dev nD := ⟨(c.val + k) % 4, Nat.mod_lt _ (by decide)⟩

theorem rot_rot (j k : ℕ) (c : Dev nD) : rot j (rot k c) = rot (k + j) c := Fin.ext (by show ((c.val + k) % 4 + j) % 4 = (c.val + (k + j)) % 4; omega)
theorem rot_four (c : Dev nD) : rot 4 c = c := Fin.ext (by have : c.val < 4 := c.isLt; show (c.val + 4) % 4 = c.val; omega)
theorem rot_zero (c : Dev nD) : rot 0 c = c := Fin.ext (by have : c.val < 4 := c.isLt; show (c.val + 0) % 4 = c.val; omega)

abbrev wslot (p : Fin 2) : Rect S2x4096x512 := Rect.unit (s := S2x4096x512) ![p.val, 0, 0] S1x4096x512.size (by fin_cases p <;> decide)
abbrev sslot (p : Fin 2) : Rect S2x1024x2048 := Rect.unit (s := S2x1024x2048) ![p.val, 0, 0] S1x1024x2048.size (by fin_cases p <;> decide)
abbrev rslot (s : Dev nD) : Rect S4x1024x2048 := Rect.unit (s := S4x1024x2048) ![s.val, 0, 0] S1x1024x2048.size (by revert s; decide)
abbrev arow (s : Dev nD) : Rect S4x8x128 := Rect.unit (s := S4x8x128) ![s.val, 0, 0] S1x8x128.size (by revert s; decide)

/-- Slot p of the send buffer, slot s of the recv buffer, row s of the amax buffer, on device c. -/
abbrev sPts (c : Dev nD) (p : Fin 2) (f : Buf (Elt F) (s4.view.loc (c : Thread nD τ))) : sProp 𝕄 :=
  s4.view.loc (c : Thread nD τ) ↦[s4.view.setOn (sslot p).set]{fullShare} f
abbrev rPts (c s : Dev nD) (f : Buf (Elt F) (r5.view.loc (c : Thread nD τ))) : sProp 𝕄 :=
  r5.view.loc (c : Thread nD τ) ↦[r5.view.setOn (rslot s).set]{fullShare} f
abbrev aPts (c s : Dev nD) (q : PosShare TreeShare) (f : Buf (Elt F) (a6.view.loc (c : Thread nD τ))) : sProp 𝕄 :=
  a6.view.loc (c : Thread nD τ) ↦[a6.view.setOn (arow s).set]{q} f

/-! ## The semaphores -/

/-- The barrier semaphore, the send semaphore of group g, the recv semaphore of source s, the amax send semaphore of the peer
    k places ahead, the amax recv semaphore of source s. -/
abbrev barL : SemLoc sig := .reg (sig.barrier 0 rfl)
abbrev sndL (g : Fin 4) : SemLoc sig := .dma (⟨3 + g.val, by have := g.isLt; show _ < 20; omega⟩ : Fin 20)
abbrev rcvL (s : Fin 4) : SemLoc sig := .dma (⟨7 + s.val, by have := s.isLt; show _ < 20; omega⟩ : Fin 20)
abbrev asnL (k : Fin 4) : SemLoc sig := .dma (⟨11 + k.val, by have := k.isLt; show _ < 20; omega⟩ : Fin 20)
abbrev arcL (s : Fin 4) : SemLoc sig := .dma (⟨15 + s.val, by have := s.isLt; show _ < 20; omega⟩ : Fin 20)

abbrev cell (c : Dev nD) (sm : SemLoc sig) : GSem nD τ sig := ((c : Thread nD τ), sm)

/-- What one data copy and one amax copy credit. -/
abbrev ND : ℕ := 131072
abbrev NA : ℕ := 128

/-! ## The contents -/

section Contents

variable (X : Dev nD → Vec F S1024x4096 .bf16) (Wm : Dev nD → S4096x8192.Idx → Elt F .f32)

/-- Block q of the 2048 columns of w meant for device d, as device s reads it. -/
def Wv (s d : Dev nD) (q : Fin 4) : Vec F S1x4096x512 .f32 := fun i =>
  Wm s (ix2 (⟨(i 1).val, (i 1).isLt⟩ : Fin 4096)
    (⟨2048 * d.val + 512 * q.val + (i 2).val, by have h1 : d.val < 4 := d.isLt; have h2 := q.isLt; have h3 : (i 2).val < 512 := (i 2).isLt; omega⟩ : Fin 8192))

/-- Entry (i, j) of what device s computes for device d. -/
def dataAt (s d : Dev nD) (i : Fin 1024) (j : Fin 2048) : Elt F .bf16 :=
  k0_pay3 (X s) (Wv Wm s d ⟨j.val / 512, by omega⟩) (ix3 (0 : Fin 1) i (⟨j.val % 512, Nat.mod_lt _ (by decide)⟩ : Fin 512))

/-- The recv buffer of device c, all four slots as they are in the end. -/
def RB (c : Dev nD) : Buf (Elt F) (r5.view.loc (c : Thread nD τ)) := fun (i : S4x1024x2048.Idx) => dataAt X Wm (i 0) c (i 1) (i 2)

/-- The running maximum of device s after the first n of its sixteen blocks. -/
def runMax (s : Dev nD) : ℕ → F .f32
  | 0 => Scalar.ofBits .f32 0x00000000#32
  | n + 1 => Scalar.maximumf (runMax s n)
      (extractAt ![0, 0, 0] (shapeCast S1x1x1 (multiReduction (F := F) .maximumf [1, 2] S1
        (shapeCast S1x1024x512 (k0_pay1 (X s) (Wv Wm s (rot (n / 4 + 1) s) ⟨n % 4, Nat.mod_lt _ (by decide)⟩)) shapeCasts_S1024x512_S1x1024x512)
        0xFF800000#32 reduces_S1x1024x512_S1 (.inl rfl) rfl) shapeCasts_S1_S1x1x1) inpos_S1x1x1_p0_0_0)

/-- The largest entry device s computed. -/
def amaxOf (s : Dev nD) : F .f32 := runMax X Wm s 16

/-- The amax buffer of device c, all four rows as they are in the end. -/
def AB (c : Dev nD) : Buf (Elt F) (a6.view.loc (c : Thread nD τ)) := fun (i : S4x8x128.Idx) => amaxOf X Wm (i 0)

end Contents

/-! ## The shares an amax row is lent at -/

/-- What is kept, and what the copy to the peer k places ahead is lent. -/
def q0 : PosShare TreeShare := (fullShare : PosShare TreeShare).left.left
def qk : ℕ → PosShare TreeShare
  | 1 => (fullShare : PosShare TreeShare).left.right
  | 2 => (fullShare : PosShare TreeShare).right.left
  | _ => (fullShare : PosShare TreeShare).right.right

theorem aPts_shares (c s : Dev nD) (f : Buf (Elt F) (a6.view.loc (c : Thread nD τ))) :
    (aPts c s fullShare f : sProp 𝕄) ⊣⊢ iprop((aPts c s q0 f ∗ aPts c s (qk 1) f) ∗ (aPts c s (qk 2) f ∗ aPts c s (qk 3) f)) := by
  have h := pointsTo_share (Ix := ℕ) (Name := ℕ) (U := UU) (Lvl := ℕ) (ℓ := a6.view.loc (c : Thread nD τ)) (I := a6.view.setOn (arow s).set) (f := f) (PosShare.mem_left_op_right (fullShare : PosShare TreeShare))
  have hl := pointsTo_share (Ix := ℕ) (Name := ℕ) (U := UU) (Lvl := ℕ) (ℓ := a6.view.loc (c : Thread nD τ)) (I := a6.view.setOn (arow s).set) (f := f) (PosShare.mem_left_op_right (fullShare : PosShare TreeShare).left)
  have hr := pointsTo_share (Ix := ℕ) (Name := ℕ) (U := UU) (Lvl := ℕ) (ℓ := a6.view.loc (c : Thread nD τ)) (I := a6.view.setOn (arow s).set) (f := f) (PosShare.mem_left_op_right (fullShare : PosShare TreeShare).right)
  exact ⟨h.1.trans (BIClass.sep_mono hl.1 hr.1), (BIClass.sep_mono hl.2 hr.2).trans h.2⟩

/-! ## The schedule -/

section Sched

variable (X : Dev nD → Vec F S1024x4096 .bf16) (Wm : Dev nD → S4096x8192.Idx → Elt F .f32)

/-- The barrier payment on c's cell from the device k places behind: that device's recv slot and amax row for c, and that the two
    cells crediting their arrival are open. -/
def barPay (c : Dev nD) (k : ℕ) : sProp 𝕄 :=
  iprop((∃ f, rPts (rot (4 - k) c) c f) ∗ (∃ f, aPts (rot (4 - k) c) c fullShare f)
    ∗ reached ER (cell (rot (4 - k) c) (rcvL c)) 0 ∗ reached ER (cell (rot (4 - k) c) (arcL c)) 0)

/-- What a payment on the DMA semaphore n of device c hands over. -/
def dmaPay (c : Dev nD) (n : ℕ) : sProp 𝕄 :=
  if n = 3 ∨ n = 5 then iprop(∃ f, sPts c 0 f)
  else if n = 4 then iprop(∃ f, sPts c 1 f)
  else if h : 7 ≤ n ∧ n < 11 then rPts c ⟨n - 7, by show _ < 4; omega⟩ (RB X Wm c)
  else if 11 ≤ n ∧ n < 15 then aPts c c (qk (n - 11)) (AB X Wm c)
  else if h : 15 ≤ n ∧ n < 19 then aPts c ⟨n - 15, by show _ < 4; omega⟩ fullShare (AB X Wm c)
  else iprop(emp)

/-- The duties of round 0 on a semaphore of device c. -/
def duty0 (c : Dev nD) : SemLoc sig → Finset ℕ
  | .reg _ => {1, 2, 3}
  | .dma n => if n.val = 3 ∨ n.val = 4 ∨ n.val = 5 ∨ n.val = 12 ∨ n.val = 13 ∨ n.val = 14
      ∨ (7 ≤ n.val ∧ n.val < 11 ∧ n.val ≠ 7 + c.val) ∨ (15 ≤ n.val ∧ n.val < 19 ∧ n.val ≠ 15 + c.val) then {0} else ∅

def amt : SemLoc sig → ℕ
  | .reg _ => 1
  | .dma n => if n.val < 11 then ND else NA

def payOn (c : Dev nD) : SemLoc sig → ℕ → sProp 𝕄
  | .reg _, k => barPay c k
  | .dma n, _ => dmaPay X Wm c n.val

def Rd : Schedule (GSem nD τ sig) ℕ 𝕄 where
  duties g r := if r = 0 then duty0 g.1.1 g.2 else ∅
  amount g _ _ := amt g.2
  payload g _ d := payOn X Wm g.1.1 g.2 d
  amount_pos g _ _ _ := by
    rcases g with ⟨_, _ | n⟩
    · exact Nat.one_pos
    · show 0 < if _ then ND else NA
      split <;> decide

instance barPay_storable (c : Dev nD) (k : ℕ) : BI.Storable (upEmb : UEmb _ 𝕄) (barPay (F := F) c k) := by unfold barPay; infer_instance
instance dmaPay_storable (c : Dev nD) (n : ℕ) : BI.Storable (upEmb : UEmb _ 𝕄) (dmaPay X Wm c n) := by
  unfold dmaPay; repeat' split
  all_goals infer_instance
instance payload_storable (g : GSem nD τ sig) (r d : ℕ) : BI.Storable (upEmb : UEmb _ 𝕄) ((Rd X Wm).payload g r d) := by
  rcases g with ⟨t, _ | n⟩
  · exact barPay_storable t.1 d
  · exact dmaPay_storable X Wm t.1 n.val

theorem duties_zero (c : Dev nD) (sm : SemLoc sig) : (Rd X Wm).duties (cell c sm) 0 = duty0 c sm := by
  show (if (0 : ℕ) = 0 then duty0 c sm else ∅) = duty0 c sm
  exact if_pos rfl
theorem duties_later (g : GSem nD τ sig) (r : ℕ) (h : 0 + 1 ≤ r) : (Rd X Wm).duties g r = ∅ := by unfold Rd; exact if_neg (by omega)

end Sched

/-! ## The family of cells -/

/-- The scoped semaphores of the protocol. -/
def dormS : Finset (SemLoc sig) :=
  {sndL 0, sndL 1, sndL 2, rcvL 0, rcvL 1, rcvL 2, rcvL 3, asnL 1, asnL 2, asnL 3, arcL 0, arcL 1, arcL 2, arcL 3}

/-- The payments device c makes. -/
def toksOf (c : Dev nD) : Finset (GSem nD τ sig × ℕ × ℕ) :=
  {(cell (rot 1 c) barL, 0, 1), (cell (rot 2 c) barL, 0, 2), (cell (rot 3 c) barL, 0, 3),
   (cell c (sndL 0), 0, 0), (cell c (sndL 1), 0, 0), (cell c (sndL 2), 0, 0),
   (cell (rot 1 c) (rcvL c), 0, 0), (cell (rot 2 c) (rcvL c), 0, 0), (cell (rot 3 c) (rcvL c), 0, 0),
   (cell c (asnL 1), 0, 0), (cell c (asnL 2), 0, 0), (cell c (asnL 3), 0, 0),
   (cell (rot 1 c) (arcL c), 0, 0), (cell (rot 2 c) (arcL c), 0, 0), (cell (rot 3 c) (arcL c), 0, 0)}

/-- Who makes a payment, read off its cell and duty. -/
def payer (x : GSem nD τ sig × ℕ × ℕ) : Dev nD :=
  match x.1.2 with
  | .reg _ => rot (4 - x.2.2) x.1.1.1
  | .dma n => if 7 ≤ n.val ∧ n.val < 11 then rot (n.val - 7) 0 else if 15 ≤ n.val then rot (n.val - 15) 0 else x.1.1.1

theorem payer_toks (c : Dev nD) : ∀ x ∈ toksOf c, payer x = c := by
  revert c; decide +kernel

def Fm : Fam nD τ sig ℕ 1 where
  bar := barL
  dorm _ := dormS
  toks c _ := toksOf c
  semKey _ := 0
  hsem j _ _ := (Subsingleton.elim _ _)
  hbar _ h := by
    simp only [dormS, Finset.mem_insert, Finset.mem_singleton, reduceCtorEq, or_self] at h
  tokKey x := (payer x, 0)
  htok c j x hx := Prod.ext (payer_toks c x hx) (Subsingleton.elim _ _)

/-! ## What is owed, and the levels -/

/-- The payments device c owes the others from the start, in the order it makes them from the last to the first. -/
def dueL (c : Dev nD) : List (Pay nD τ sig) :=
  [(cell (rot 1 c) barL, 1, 1), (cell (rot 2 c) barL, 1, 1), (cell (rot 3 c) barL, 1, 1),
   (cell (rot 1 c) (rcvL c), 2, ND), (cell (rot 2 c) (rcvL c), 2, ND), (cell (rot 3 c) (rcvL c), 2, ND),
   (cell (rot 1 c) (arcL c), 2, NA), (cell (rot 2 c) (arcL c), 2, NA), (cell (rot 3 c) (arcL c), 2, NA)]

theorem dueL_tc (c : Dev nD) : ∀ x ∈ dueL c, x.1.1.2 = .tc ∧ 1 ≤ x.2.1 ∧ x.2.1 < 3 := by
  revert c; decide +kernel

abbrev K : ℕ := 3
abbrev L : GSem nD τ sig → Finset ℕ := SiteBlocks.L K
abbrev lv : GSem nD τ sig → ℕ → ℕ := SiteBlocks.lv

/-- Waiting at index i while owing only payments at later indices. -/
theorem mayWait_list (c : Dev nD) (sm : SemLoc sig) (i : ℕ) (hi : i < K) (l : List (Pay nD τ sig)) (hl : ∀ x ∈ l, x.1.1.2 = .tc ∧ i < x.2.1 ∧ x.2.1 < K) :
    (levAts L lv : sProp 𝕄) ⊢ MayWait (c : Thread nD τ) sm i (tallyL l) := by
  have h := TalkSites.mayWait_addL (Val := Elt F) (U := UU) (N := K) (e := K) hi (le_refl _) (SiteBlocks.above_zero K K (nD := nD) (τ := τ) (sig := sig)) c sm l hl
  rwa [TalkSites.addL_eq, zero_add] at h

/-- The credits dealt to device c: its own three barrier units and the six arrivals it waits for. -/
theorem credOf_perm (c : Dev nD) : (credOf dueL c).Perm
    [(cell c barL, 1, 1), (cell c barL, 1, 1), (cell c barL, 1, 1),
     (cell c (rcvL (rot 1 c)), 2, ND), (cell c (rcvL (rot 2 c)), 2, ND), (cell c (rcvL (rot 3 c)), 2, ND),
     (cell c (arcL (rot 1 c)), 2, NA), (cell c (arcL (rot 2 c)), 2, NA), (cell c (arcL (rot 3 c)), 2, NA)] := by
  revert c; decide +kernel

end Cert.KernelIdeal.Pf

end
-- ==== Proof.Geom.lean ====
/-
  The program's own spellings of devices, offsets, semaphores and windows, and the places they are.
-/
module

public import proofs.«01_k».proof.Proof.Proto
public import Idealize.ShloMosaic.Lib.WritesUnit
public import Idealize.ShloMosaic.Lib.ViewIndex
public import Idealize.ShloMosaic.Lib.ValueLayout

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.TalkSites (Fam Pay tallyL addL credOf)

variable {F : FTy → Type} [FloatOps F]

local notation "𝕄" => MT nD τ sig ℕ (Elt F) ℕ UU ℕ

/-! ## Devices -/

theorem dev1 (c : Dev nD) : (⟨k0_dev1 c, k0_dev1_lt c⟩ : Dev nD) = rot 1 c := by revert c; decide +kernel
theorem dev2 (c : Dev nD) : (⟨k0_dev2 c, k0_dev2_lt c⟩ : Dev nD) = rot 2 c := by revert c; decide +kernel
theorem dev3 (c : Dev nD) : (⟨k0_dev3 c, k0_dev3_lt c⟩ : Dev nD) = rot 3 c := by revert c; decide +kernel
theorem dev4 (c : Dev nD) : (⟨k0_dev4 c, k0_dev4_lt c⟩ : Dev nD) = rot 1 c := by revert c; decide +kernel
theorem dev5 (c : Dev nD) : (⟨k0_dev5 c, k0_dev5_lt c⟩ : Dev nD) = rot 2 c := by revert c; decide +kernel
theorem dev6 (c : Dev nD) : (⟨k0_dev6 c, k0_dev6_lt c⟩ : Dev nD) = rot 3 c := by revert c; decide +kernel
theorem dev7 (c : Dev nD) : (⟨k0_dev7 c, k0_dev7_lt c⟩ : Dev nD) = rot 1 c := by revert c; decide +kernel
theorem dev8 (c : Dev nD) : (⟨k0_dev8 c, k0_dev8_lt c⟩ : Dev nD) = rot 2 c := by revert c; decide +kernel
theorem dev9 (c : Dev nD) : (⟨k0_dev9 c, k0_dev9_lt c⟩ : Dev nD) = rot 3 c := by revert c; decide +kernel

/-! ## Offsets -/

theorem off1_eq (c : Dev nD) (g q : Fin 4) :
    k0_off1 c (BitVec.ofNat 32 g.val) (BitVec.ofNat 32 (512 * q.val)) = ![0, 2048 * (rot (g.val + 1) c).val + 512 * q.val] := by
  revert c g q; decide +kernel
theorem off2_eq (c : Dev nD) : k0_off2 c = ![c.val] := by revert c; decide +kernel
theorem off3_eq (c : Dev nD) : k0_off3 c = ![c.val, 0, 0] := by revert c; decide +kernel
theorem off4_eq (c : Dev nD) : k0_off4 c = ![c.val, 0, 0] := by revert c; decide +kernel
theorem off5_eq (c : Dev nD) : k0_off5 c = ![c.val, 0, 512] := by revert c; decide +kernel
theorem off6_eq (c : Dev nD) : k0_off6 c = ![c.val, 0, 1024] := by revert c; decide +kernel
theorem off7_eq (c : Dev nD) : k0_off7 c = ![c.val, 0, 1536] := by revert c; decide +kernel
theorem off8_eq (c : Dev nD) : k0_off8 c = ![c.val, 0, 0] := by revert c; decide +kernel
theorem off9_eq (c : Dev nD) : k0_off9 c = ![c.val, 0, 0] := by revert c; decide +kernel
theorem off12_eq (c : Dev nD) : k0_off12 c = ![c.val, 0, 0] := by revert c; decide +kernel
theorem off10_eq (c : Dev nD) (k : Fin 3) : k0_off10 c (BitVec.ofNat 32 (k.val + 1)) = ![(rot (k.val + 1) c).val] := by revert c k; decide +kernel
theorem off11_eq (c : Dev nD) (k : Fin 3) : k0_off11 c (BitVec.ofNat 32 (k.val + 1)) = ![(rot (k.val + 1) c).val, 0, 0] := by revert c k; decide +kernel
theorem off14_eq (c : Dev nD) (k : Fin 3) : k0_off14 c (BitVec.ofNat 32 (k.val + 1)) = ![(rot (k.val + 1) c).val, 0, 0] := by revert c k; decide +kernel
theorem off15_eq (c : Dev nD) (k : Fin 3) : k0_off15 c (BitVec.ofNat 32 (k.val + 1)) = ![(rot (k.val + 1) c).val, 0, 0] := by revert c k; decide +kernel
theorem off13_eq (c : Dev nD) : k0_off13 c = ![1024 * c.val, 0] := by revert c; decide +kernel
theorem off16_eq (c : Dev nD) (k : Fin 3) : k0_off16 c (BitVec.ofNat 32 (k.val + 1)) = ![1024 * (rot (k.val + 1) c).val, 0] := by revert c k; decide +kernel

/-! ## Semaphores -/

theorem sem_snd (g : Fin 4) (h) : ((cc0_scratch6.slice (Rect.unit (s := S4) ![g.val] S1.size h)).squeeze S_ squeezes_S1_S_).sem = (⟨3 + g.val, by have := g.isLt; show _ < 20; omega⟩ : Fin 20) := by
  revert g; decide +kernel
theorem sem_asn (g : Fin 4) (h) : ((cc0_scratch8.slice (Rect.unit (s := S4) ![g.val] S1.size h)).squeeze S_ squeezes_S1_S_).sem = (⟨11 + g.val, by have := g.isLt; show _ < 20; omega⟩ : Fin 20) := by
  revert g; decide +kernel
theorem sem_rcv (s : Dev nD) (off : Fin 1 → ℕ) (ho : off = ![s.val]) (h) : ((cc0_scratch7.slice (Rect.unit (s := S4) off S1.size h)).squeeze S_ squeezes_S1_S_).sem = (⟨7 + s.val, by have : s.val < 4 := s.isLt; show _ < 20; omega⟩ : Fin 20) := by
  subst ho; revert s; decide +kernel
theorem sem_arc (s : Dev nD) (off : Fin 1 → ℕ) (ho : off = ![s.val]) (h) : ((cc0_scratch9.slice (Rect.unit (s := S4) off S1.size h)).squeeze S_ squeezes_S1_S_).sem = (⟨15 + s.val, by have : s.val < 4 := s.isLt; show _ < 20; omega⟩ : Fin 20) := by
  subst ho; revert s; decide +kernel

/-! ## The windows the copies name -/

abbrev sView (p : Fin 2) : Memref sig .tc .vmem S1024x2048 .bf16 := (s4.slice (sslot p) (fun _ => rfl)).squeeze S1024x2048 squeezes_S1x1024x2048_S1024x2048
abbrev rView (s : Dev nD) : Memref sig .tc .vmem S1024x2048 .bf16 := (r5.slice (rslot s) (fun _ => rfl)).squeeze S1024x2048 squeezes_S1x1024x2048_S1024x2048
abbrev aView (s : Dev nD) : Memref sig .tc .vmem S8x128 .f32 := (a6.slice (arow s) (fun _ => rfl)).squeeze S8x128 squeezes_S1x8x128_S8x128

theorem sView_set (p : Fin 2) : (sView p).view.set = s4.view.setOn (sslot p).set := (View.set_reshape _ _).trans (View.set_slice _ _)
theorem rView_set (s : Dev nD) : (rView s).view.set = r5.view.setOn (rslot s).set := (View.set_reshape _ _).trans (View.set_slice _ _)
theorem aView_set (s : Dev nD) : (aView s).view.set = a6.view.setOn (arow s).set := (View.set_reshape _ _).trans (View.set_slice _ _)

theorem sView_emb (p : Fin 2) (y : S1024x2048.Idx) : (sView p).view.emb y = (ix3 p (y 0) (y 1) : S2x1024x2048.Idx) := by
  rw [ValueIdx.eq_ix2 y]
  refine (congrArg (fun z => s4.view.emb ((sslot p).emb z)) (ValueIdx.reshapeEquiv_ix2_1ab (a := 1024) (b := 2048) _ (y 0) (y 1))).trans ?_
  funext a; refine Fin.ext ?_
  fin_cases a
  · show p.val + 1 * 0 = p.val; omega
  · show 0 + 1 * (y 0).val = (y 0).val; omega
  · show 0 + 1 * (y 1).val = (y 1).val; omega
theorem rView_emb (s : Dev nD) (y : S1024x2048.Idx) : (rView s).view.emb y = (ix3 s (y 0) (y 1) : S4x1024x2048.Idx) := by
  rw [ValueIdx.eq_ix2 y]
  refine (congrArg (fun z => r5.view.emb ((rslot s).emb z)) (ValueIdx.reshapeEquiv_ix2_1ab (a := 1024) (b := 2048) _ (y 0) (y 1))).trans ?_
  funext a; refine Fin.ext ?_
  fin_cases a
  · show s.val + 1 * 0 = s.val; omega
  · show 0 + 1 * (y 0).val = (y 0).val; omega
  · show 0 + 1 * (y 1).val = (y 1).val; omega
theorem aView_emb (s : Dev nD) (y : S8x128.Idx) : (aView s).view.emb y = (ix3 s (y 0) (y 1) : S4x8x128.Idx) := by
  rw [ValueIdx.eq_ix2 y]
  refine (congrArg (fun z => a6.view.emb ((arow s).emb z)) (ValueIdx.reshapeEquiv_ix2_1ab (a := 8) (b := 128) _ (y 0) (y 1))).trans ?_
  funext a; refine Fin.ext ?_
  fin_cases a
  · show s.val + 1 * 0 = s.val; omega
  · show 0 + 1 * (y 0).val = (y 0).val; omega
  · show 0 + 1 * (y 1).val = (y 1).val; omega

theorem sView_amt (p : Fin 2) (n : DmaSem sig) : (sView p).view.amount (.dma n) = ND := rfl
theorem rView_amt (s : Dev nD) (n : DmaSem sig) : (rView s).view.amount (.dma n) = ND := rfl
theorem aView_amt (s : Dev nD) (n : DmaSem sig) : (aView s).view.amount (.dma n) = NA := rfl

/-! ## What a copy lands -/

section Land

variable (X : Dev nD → Vec F S1024x4096 .bf16) (Wm : Dev nD → S4096x8192.Idx → Elt F .f32)

/-- A send slot that holds what c computed for c', landed in slot c of the recv buffer of c': that slot's canonical contents. -/
theorem landR (c c' : Dev nD) (p : Fin 2) (f : Buf (Elt F) (s4.view.loc (c : Thread nD τ))) (f' : Buf (Elt F) (r5.view.loc (c' : Thread nD τ)))
    (hf : ∀ (i : Fin 1024) (j : Fin 2048), s4.view.read (Elt F) f (ix3 p i j : S2x1024x2048.Idx) = dataAt X Wm c c' i j) :
    ((rView c).view.loc (c' : Thread nD τ) ↦[(rView c).view.set]{fullShare} ((rView c).view.write (Elt F) f' ((sView p).view.read (Elt F) f) Finset.univ) : sProp 𝕄)
      ⊢ rPts c' c (RB X Wm c') := by
  rw [rView_set]
  refine Entails.of_eq (pointsTo_congr (U := UU) fun i hi => ?_)
  rw [← rView_set] at hi
  obtain ⟨y, -, rfl⟩ := Finset.mem_map.mp hi
  rw [View.write_emb_of_mem _ _ (Finset.mem_univ y)]
  have e1 : (sView p).view.read (Elt F) f y = s4.view.read (Elt F) f (ix3 p (y 0) (y 1) : S2x1024x2048.Idx) := congrArg f (sView_emb p y)
  refine (cast_eq _ _).trans (e1.trans ((hf _ _).trans ?_))
  exact (congrArg (RB X Wm c') (rView_emb c y)).symm

/-- Row c of the amax buffer of c, landed in row c of the amax buffer of c'. -/
theorem landA (c c' : Dev nD) (f' : Buf (Elt F) (a6.view.loc (c' : Thread nD τ))) :
    ((aView c).view.loc (c' : Thread nD τ) ↦[(aView c).view.set]{fullShare} ((aView c).view.write (Elt F) f' ((aView c).view.read (Elt F) (AB X Wm c)) Finset.univ) : sProp 𝕄)
      ⊢ aPts c' c fullShare (AB X Wm c') := by
  rw [aView_set]
  refine Entails.of_eq (pointsTo_congr (U := UU) fun i hi => ?_)
  rw [← aView_set] at hi
  obtain ⟨y, -, rfl⟩ := Finset.mem_map.mp hi
  rw [View.write_emb_of_mem _ _ (Finset.mem_univ y)]
  rfl

end Land

/-! ## The schedule read at the cells -/

section Tables

variable (X : Dev nD → Vec F S1024x4096 .bf16) (Wm : Dev nD → S4096x8192.Idx → Elt F .f32)

theorem rot_ne (c : Dev nD) (k : ℕ) (h1 : 1 ≤ k) (h2 : k ≤ 3) : (rot k c).val ≠ c.val := by
  have : c.val < 4 := c.isLt
  show (c.val + k) % 4 ≠ c.val; omega

theorem duty_snd (c : Dev nD) (g : Fin 4) (hg : g.val < 3) : (Rd X Wm).duties (cell c (sndL g)) 0 = {0} := by
  rw [duties_zero]; refine if_pos ?_; show 3 + g.val = 3 ∨ 3 + g.val = 4 ∨ 3 + g.val = 5 ∨ _; omega
theorem duty_asn (c : Dev nD) (k : Fin 4) (hk : 1 ≤ k.val) : (Rd X Wm).duties (cell c (asnL k)) 0 = {0} := by
  have := k.isLt
  rw [duties_zero]; refine if_pos ?_; show 11 + k.val = 3 ∨ 11 + k.val = 4 ∨ 11 + k.val = 5 ∨ 11 + k.val = 12 ∨ 11 + k.val = 13 ∨ 11 + k.val = 14 ∨ _; omega
theorem duty_rcv (c s : Dev nD) (h : s.val ≠ c.val) : (Rd X Wm).duties (cell c (rcvL s)) 0 = {0} := by
  have : s.val < 4 := s.isLt
  rw [duties_zero]; refine if_pos ?_
  show _ ∨ _ ∨ _ ∨ _ ∨ _ ∨ _ ∨ (7 ≤ 7 + s.val ∧ 7 + s.val < 11 ∧ 7 + s.val ≠ 7 + c.val) ∨ _; omega
theorem duty_arc (c s : Dev nD) (h : s.val ≠ c.val) : (Rd X Wm).duties (cell c (arcL s)) 0 = {0} := by
  have : s.val < 4 := s.isLt
  rw [duties_zero]; refine if_pos ?_
  show _ ∨ _ ∨ _ ∨ _ ∨ _ ∨ _ ∨ _ ∨ (15 ≤ 15 + s.val ∧ 15 + s.val < 19 ∧ 15 + s.val ≠ 15 + c.val); omega
theorem duty_bar (c : Dev nD) : (Rd X Wm).duties (cell c barL) 0 = {1, 2, 3} := duties_zero X Wm c barL

theorem amt_snd (c : Dev nD) (g : Fin 4) (d : ℕ) : (Rd X Wm).amount (cell c (sndL g)) 0 d = ND := if_pos (by have := g.isLt; show 3 + g.val < 11; omega)
theorem amt_asn (c : Dev nD) (g : Fin 4) (d : ℕ) : (Rd X Wm).amount (cell c (asnL g)) 0 d = NA := if_neg (by show ¬(11 + g.val < 11); omega)
theorem amt_rcv (c : Dev nD) (g : Fin 4) (d : ℕ) : (Rd X Wm).amount (cell c (rcvL g)) 0 d = ND := if_pos (by have := g.isLt; show 7 + g.val < 11; omega)
theorem amt_arc (c : Dev nD) (g : Fin 4) (d : ℕ) : (Rd X Wm).amount (cell c (arcL g)) 0 d = NA := if_neg (by show ¬(15 + g.val < 11); omega)

theorem pay_snd (c : Dev nD) (g : Fin 4) (hg : g.val < 3) (p : Fin 2) (hp : p.val = g.val % 2) (d : ℕ) :
    (Rd X Wm).payload (cell c (sndL g)) 0 d = iprop(∃ f, sPts c p f) := by
  show dmaPay X Wm c (3 + g.val) = _
  obtain ⟨g, hg'⟩ := g
  have : g = 0 ∨ g = 1 ∨ g = 2 := by simp only at hg; omega
  unfold dmaPay
  rcases this with rfl | rfl | rfl
  · obtain rfl : p = 0 := Fin.ext hp
    exact if_pos (.inl rfl)
  · obtain rfl : p = 1 := Fin.ext hp
    exact (if_neg (by show ¬(3 + 1 = 3 ∨ 3 + 1 = 5); omega)).trans (if_pos rfl)
  · obtain rfl : p = 0 := Fin.ext (by rw [hp]; show 2 % 2 = 0 % 2; omega)
    exact if_pos (.inr rfl)
theorem pay_asn (c : Dev nD) (k : Fin 4) (hk : 1 ≤ k.val) (d : ℕ) : (Rd X Wm).payload (cell c (asnL k)) 0 d = aPts c c (qk k.val) (AB X Wm c) := by
  show dmaPay X Wm c (11 + k.val) = _
  obtain ⟨k, hk'⟩ := k
  have : k = 1 ∨ k = 2 ∨ k = 3 := by simp only at hk; omega
  rcases this with rfl | rfl | rfl <;> rfl
theorem pay_rcv (c s : Dev nD) (d : ℕ) : (Rd X Wm).payload (cell c (rcvL s)) 0 d = rPts c s (RB X Wm c) := by
  show dmaPay X Wm c (7 + s.val) = _
  obtain ⟨s, hs'⟩ := s
  have hs : s < 4 := hs'
  have : s = 0 ∨ s = 1 ∨ s = 2 ∨ s = 3 := by omega
  rcases this with rfl | rfl | rfl | rfl <;> rfl
theorem pay_arc (c s : Dev nD) (d : ℕ) : (Rd X Wm).payload (cell c (arcL s)) 0 d = aPts c s fullShare (AB X Wm c) := by
  show dmaPay X Wm c (15 + s.val) = _
  obtain ⟨s, hs'⟩ := s
  have hs : s < 4 := hs'
  have : s = 0 ∨ s = 1 ∨ s = 2 ∨ s = 3 := by omega
  rcases this with rfl | rfl | rfl | rfl <;> rfl

theorem exp_snd (c : Dev nD) (g : Fin 4) (hg : g.val < 3) : (Rd X Wm).expect (cell c (sndL g)) 0 = ND := by
  unfold Schedule.expect Schedule.amountOf; rw [duty_snd X Wm c g hg, Finset.sum_singleton, amt_snd]
theorem exp_asn (c : Dev nD) (k : Fin 4) (hk : 1 ≤ k.val) : (Rd X Wm).expect (cell c (asnL k)) 0 = NA := by
  unfold Schedule.expect Schedule.amountOf; rw [duty_asn X Wm c k hk, Finset.sum_singleton, amt_asn]
theorem exp_rcv (c s : Dev nD) (h : s.val ≠ c.val) : (Rd X Wm).expect (cell c (rcvL s)) 0 = ND := by
  unfold Schedule.expect Schedule.amountOf; rw [duty_rcv X Wm c s h, Finset.sum_singleton, amt_rcv]
theorem exp_arc (c s : Dev nD) (h : s.val ≠ c.val) : (Rd X Wm).expect (cell c (arcL s)) 0 = NA := by
  unfold Schedule.expect Schedule.amountOf; rw [duty_arc X Wm c s h, Finset.sum_singleton, amt_arc]
theorem exp_bar (c : Dev nD) : (Rd X Wm).expect (cell c barL) 0 = 3 := by
  unfold Schedule.expect Schedule.amountOf; rw [duty_bar X Wm c]; rfl

end Tables

end Cert.KernelIdeal.Pf

end
-- ==== Proof.Steps.lean ====
/-
  The protocol's steps, one lemma per kind: a barrier signal, the barrier wait, a data copy, an amax copy, a wait on a cell.
-/
module

public import proofs.«01_k».proof.Proof.Geom

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.TalkSites (Fam Pay tallyL addL credOf)

variable {F : FTy → Type} [FloatOps F]

local notation "𝕄" => MT nD τ sig ℕ (Elt F) ℕ UU ℕ

abbrev 𝒱₀ : Variants := Variants.none

/-! ## What is still owed after n payments -/

def Ow (c : Dev nD) (n : ℕ) : CellTallies nD τ sig ℕ := tallyL ((dueL c).drop n)

theorem Ow_nine (c : Dev nD) : Ow c 9 = 0 := rfl
theorem Ow_zero (c : Dev nD) : Ow c 0 = tallyL (dueL c) := rfl

theorem Ow_bar (c : Dev nD) (k : ℕ) (h1 : 1 ≤ k) (h2 : k ≤ 3) : Ow c (k - 1) = Ow c k + tallyAt (cell (rot k c) barL) 1 1 := by
  have : k = 1 ∨ k = 2 ∨ k = 3 := by omega
  rcases this with rfl | rfl | rfl <;> exact add_comm _ _
theorem Ow_rcv (c : Dev nD) (k : ℕ) (h1 : 1 ≤ k) (h2 : k ≤ 3) : Ow c (k + 2) = Ow c (k + 3) + tallyAt (cell (rot k c) (rcvL c)) 2 ND := by
  have : k = 1 ∨ k = 2 ∨ k = 3 := by omega
  rcases this with rfl | rfl | rfl <;> exact add_comm _ _
theorem Ow_arc (c : Dev nD) (k : ℕ) (h1 : 1 ≤ k) (h2 : k ≤ 3) : Ow c (k + 5) = Ow c (k + 6) + tallyAt (cell (rot k c) (arcL c)) 2 NA := by
  have : k = 1 ∨ k = 2 ∨ k = 3 := by omega
  rcases this with rfl | rfl | rfl <;> exact add_comm _ _

theorem mayWait0 (c : Dev nD) (sm : SemLoc sig) (n : ℕ) : (levAts L lv : sProp 𝕄) ⊢ MayWait (c : Thread nD τ) sm 0 (Ow c n) :=
  mayWait_list c sm 0 (by decide) _ fun x hx => dueL_tc c x (List.mem_of_mem_drop hx)
theorem mayWaits0 (c : Dev nD) (n : ℕ) : (levAts L lv : sProp 𝕄) ⊢ Transfers.MayWaits (c : Thread nD τ) (0 : ℕ) (Ow c n) :=
  Transfers.MayWaits.intro fun sm => mayWait0 c sm n
theorem dueL_late (c : Dev nD) : ∀ x ∈ (dueL c).drop 3, x.1.1.2 = .tc ∧ 1 < x.2.1 ∧ x.2.1 < 3 := by
  revert c; decide +kernel
theorem mayWait1 (c : Dev nD) (sm : SemLoc sig) : (levAts L lv : sProp 𝕄) ⊢ MayWait (c : Thread nD τ) sm 1 (Ow c 3) :=
  mayWait_list c sm 1 (by decide) _ (dueL_late c)
theorem mayWait2 (c : Dev nD) (sm : SemLoc sig) : (levAts L lv : sProp 𝕄) ⊢ MayWait (c : Thread nD τ) sm 2 (Ow c 9) :=
  mayWait_list c sm 2 (by decide) _ (by intro x hx; exact absurd hx List.not_mem_nil)

section Steps

variable (X : Dev nD → Vec F S1024x4096 .bf16) (Wm : Dev nD → S4096x8192.Idx → Elt F .f32) (κ : GSem nD τ sig → ℕ)

abbrev Invs : sProp 𝕄 := Fm.cellInvs ER (Rd X Wm) κ

theorem inv_bar (c : Dev nD) : Invs X Wm κ ⊢ cellInv ER (Rd X Wm) (κ (cell c barL)) (cell c barL) := Fm.cellInvs_bar ER (Rd X Wm) κ c
theorem inv_dma (c : Dev nD) {sm : SemLoc sig} (h : sm ∈ dormS) : Invs X Wm κ ⊢ cellInv ER (Rd X Wm) (κ (cell c sm)) (cell c sm) :=
  Fm.cellInvs_dorm ER (Rd X Wm) κ c (j := 0) h

theorem mem_snd (g : Fin 4) (h : g.val < 3) : sndL g ∈ dormS := by revert g; decide +kernel
theorem mem_asn (g : Fin 4) (h : 1 ≤ g.val) : asnL g ∈ dormS := by revert g; decide +kernel
theorem mem_rcv (g : Fin 4) : rcvL g ∈ dormS := by revert g; decide +kernel
theorem mem_arc (g : Fin 4) : arcL g ∈ dormS := by revert g; decide +kernel

theorem pay_bar (c : Dev nD) (k : ℕ) : (Rd X Wm).payload (cell c barL) 0 k = barPay c k := rfl

/-- What the signal to the device k places ahead spends. -/
def sigB (c : Dev nD) (k : ℕ) : sProp 𝕄 :=
  iprop(dutyTok ER (cell (rot k c) barL) 0 k ∗ reached ER (cell (rot k c) barL) 0 ∗ barPay (rot k c) k)

theorem step_signal (c c' : Dev nD) (k : ℕ) (h1 : 1 ≤ k) (h2 : k ≤ 3) (hc : c' = rot k c) {α : Type} {W : Waits sig ℕ}
    {kk : PUnit → Prog (TpuEff nD τ sig (Elt F) Λ₀ .tc) α} {Q : α → sProp 𝕄} :
    iprop(Invs X Wm κ ∗ owes (c : Thread nD τ) (Ow c (k - 1)) W ∗ sigB c k)
      ⊢ iprop((owes (c : Thread nD τ) (Ow c k) W -∗ wp frame (wpE defs₀ 𝒱₀ (c : Thread nD τ) none) Set.univ (kk ⟨⟩) Q)
          -∗ wp frame (wpE defs₀ 𝒱₀ (c : Thread nD τ) none) Set.univ (.op (.semSignal (c' : Thread nD τ) (sig.barrier 0 rfl) 1) kk) Q) := by
  subst hc
  unfold sigB
  iintro ⟨#HI, HO, Ht, Hr, Hp⟩ Hk
  iapply (Rounds.wp_signal 𝒱₀ ER (Rd X Wm) (c : Thread nD τ) none (dst := (rot k c : Thread nD τ)) (sem := sig.barrier 0 rfl) (r := 0) (d := k) (κ := κ (cell (rot k c) barL))
      (by rw [duty_bar]; simp only [Finset.mem_insert, Finset.mem_singleton]; omega) rfl 1 (Ow c k) (Ow_bar c k h1 h2)) $$ [HO Ht Hr Hp]
  · isplitr; · iapply (inv_bar X Wm κ (rot k c)); iexact HI
    isplitl [HO]; · iexact HO
    isplitl [Ht]; · iexact Ht
    isplitl [Hp]; · rw [pay_bar]; iexact Hp
    iexact Hr
  iexact Hk

theorem step_barrier (c : Dev nD) {α : Type} {W : Waits sig ℕ}
    {kk : PUnit → Prog (TpuEff nD τ sig (Elt F) Λ₀ .tc) α} {Q : α → sProp 𝕄} :
    iprop(Invs X Wm κ ∗ levAts L lv ∗ owes (c : Thread nD τ) (Ow c 3) W ∗ cred (tallyAt (cell c barL) 1 3) ∗ atPos ER (cell c barL) 0 ∅ 0)
      ⊢ iprop((iprop(owes (c : Thread nD τ) (Ow c 3) (insert (barL, 1) W) ∗ atPos ER (cell c barL) (0 + 1) ∅ 0 ∗ barPay c 1 ∗ barPay c 2 ∗ barPay c 3)
            -∗ wp frame (wpE defs₀ 𝒱₀ (c : Thread nD τ) none) Set.univ (kk ⟨⟩) Q)
          -∗ wp frame (wpE defs₀ 𝒱₀ (c : Thread nD τ) none) Set.univ (.op (.semWait (sig.barrier 0 rfl) 3) kk) Q) := by
  iintro ⟨#HI, #Hlev, HO, Hc, Hat⟩ Hk
  iapply (Rounds.wp_wait_rest_token 𝒱₀ ER (Rd X Wm) (c : Thread nD τ) none (κ := κ (cell c barL))
      (wpE_semWait_eq 𝒱₀ (c : Thread nD τ) none Set.univ) (Set.mem_univ _) 1 (O := Ow c 3) (W := W) (R := 0) (m := 0) (T := ∅)
      ((Nat.zero_add 3).trans (exp_bar X Wm c).symm)) $$ [Hc HO Hat]
  · isplitr; · iapply (inv_bar X Wm κ c); iexact HI
    isplitl [Hc]; · iexact Hc
    isplitl [HO]; · iexact HO
    isplitr; · iapply (mayWait1 c barL); iexact Hlev
    iexact Hat
  iintro ⟨HO, Hat, -, Hpay⟩
  have e : (bigSep ((Rd X Wm).duties (cell c barL) 0 \ ∅) (fun d => (Rd X Wm).payload (cell c barL) 0 d) : sProp 𝕄) ⊢ iprop(barPay c 1 ∗ barPay c 2 ∗ barPay c 3) := by
    rw [duty_bar, Finset.sdiff_empty]
    rw [bigSep_insert (by decide), bigSep_insert (by decide), bigSep_singleton, pay_bar, pay_bar, pay_bar]
    exact BI.Entails.refl _
  ihave Hp := e $$ Hpay
  iapply Hk
  isplitl [HO]; · iexact HO
  isplitl [Hat]; · iexact Hat
  iexact Hp

/-- A wait on a cell of one payment, at index i, still owing the payments after the n-th. -/
theorem step_wait (c : Dev nD) (sm : SemLoc sig) (hm : sm ∈ dormS) (N i n : ℕ) (P : sProp 𝕄)
    (hdut : (Rd X Wm).duties (cell c sm) 0 = {0}) (hexp : (Rd X Wm).expect (cell c sm) 0 = N) (hpay : (Rd X Wm).payload (cell c sm) 0 0 = P)
    (hlev : (levAts L lv : sProp 𝕄) ⊢ MayWait (c : Thread nD τ) sm i (Ow c n))
    {κ' : Kind} {s : Shape} {e : EltTy} (sem : DmaSem sig) (hsem : SemLoc.dma sem = sm) (b : Ref sig κ') (hk : (c : Thread nD τ).2 = .tc ∨ b.HasMemref s e) (hN : b.dmaCredit s e = N)
    {α : Type} {W : Waits sig ℕ}
    {kk : PUnit → Prog (TpuEff nD τ sig (Elt F) Λ₀ .tc) α} {Q : α → sProp 𝕄} :
    iprop(Invs X Wm κ ∗ levAts L lv ∗ owes (c : Thread nD τ) (Ow c n) W ∗ cred (tallyAt (cell c sm) i N) ∗ atPos ER (cell c sm) 0 ∅ 0)
      ⊢ iprop((iprop(owes (c : Thread nD τ) (Ow c n) (insert (sm, i) W) ∗ atPos ER (cell c sm) (0 + 1) ∅ 0 ∗ P)
            -∗ wp frame (wpE defs₀ 𝒱₀ (c : Thread nD τ) none) Set.univ (kk ⟨⟩) Q)
          -∗ wp frame (wpE defs₀ 𝒱₀ (c : Thread nD τ) none) Set.univ (.op (.waitDma sem b s e hk) kk) Q) := by
  subst hsem hN
  iintro ⟨#HI, #Hlev, HO, Hc, Hat⟩ Hk
  iapply (Rounds.wp_wait_rest_token 𝒱₀ ER (Rd X Wm) (c : Thread nD τ) none (κ := κ (cell c (.dma sem)))
      (wpE_waitDma_eq 𝒱₀ (c : Thread nD τ) none Set.univ) (Set.mem_univ _) i (O := Ow c n) (W := W) (R := 0) (m := 0) (T := ∅)
      ((Nat.zero_add _).trans hexp.symm)) $$ [Hc HO Hat]
  · isplitr; · iapply (inv_dma X Wm κ c hm); iexact HI
    isplitl [Hc]; · iexact Hc
    isplitl [HO]; · iexact HO
    isplitr; · iapply hlev; iexact Hlev
    iexact Hat
  iintro ⟨HO, Hat, -, Hpay⟩
  have e : (bigSep ((Rd X Wm).duties (cell c (.dma sem)) 0 \ ∅) (fun d => (Rd X Wm).payload (cell c (.dma sem)) 0 d) : sProp 𝕄) ⊢ P := by
    rw [hdut, Finset.sdiff_empty, bigSep_singleton, hpay]
  ihave Hp := e $$ Hpay
  iapply Hk
  isplitl [HO]; · iexact HO
  isplitl [Hat]; · iexact Hat
  iexact Hp

/-- What the data copy of group g spends beside the slots: the two duties' tokens, and that the two cells are open. -/
def sndB (c : Dev nD) (g : Fin 4) : sProp 𝕄 :=
  iprop(dutyTok ER (cell c (sndL g)) 0 0 ∗ reached ER (cell c (sndL g)) 0 ∗ dutyTok ER (cell (rot (g.val + 1) c) (rcvL c)) 0 0)

theorem step_send (c c' : Dev nD) (g : Fin 4) (hg : g.val < 3) (p : Fin 2) (hp : p.val = g.val % 2) (hc : c' = rot (g.val + 1) c)
    (f : Buf (Elt F) (s4.view.loc (c : Thread nD τ))) (f' : Buf (Elt F) (r5.view.loc (rot (g.val + 1) c : Thread nD τ)))
    (hf : ∀ (i : Fin 1024) (j : Fin 2048), s4.view.read (Elt F) f (ix3 p i j : S2x1024x2048.Idx) = dataAt X Wm c (rot (g.val + 1) c) i j)
    (sS sR : DmaSem sig) (hS : SemLoc.dma sS = sndL g) (hR : SemLoc.dma sR = rcvL c)
    (off : Fin 3 → ℕ) (inb : ∀ a, off a + S1x1024x2048.size a ≤ S4x1024x2048.size a) (hoff : off = ![c.val, 0, 0]) (hsc)
    (hsrc : (sView p).view.WordExact) (hdst : ((r5.slice (Rect.unit (s := S4x1024x2048) off S1x1024x2048.size inb) (fun _ => rfl)).squeeze S1024x2048 squeezes_S1x1024x2048_S1024x2048).view.WordExact)
    (hsem : DmaTarget.Typed .vmem (SemLoc.dma sR) (.remote (c' : Thread nD τ) ((r5.slice (Rect.unit (s := S4x1024x2048) off S1x1024x2048.size inb) (fun _ => rfl)).squeeze S1024x2048 squeezes_S1x1024x2048_S1024x2048) (SemLoc.dma sS) hsc))
    {α : Type} {W : Waits sig ℕ}
    {kk : PUnit → Prog (TpuEff nD τ sig (Elt F) Λ₀ .tc) α} {Q : α → sProp 𝕄} :
    iprop(Invs X Wm κ ∗ owes (c : Thread nD τ) (Ow c (g.val + 3)) W ∗ sPts c p f ∗ rPts (rot (g.val + 1) c) c f' ∗ sndB c g ∗ reached ER (cell (rot (g.val + 1) c) (rcvL c)) 0)
      ⊢ iprop((iprop(cred (tallyAt (cell c (sndL g)) 0 ND) ∗ owes (c : Thread nD τ) (Ow c (g.val + 4)) W) -∗ wp frame (wpE defs₀ 𝒱₀ (c : Thread nD τ) none) Set.univ (kk ⟨⟩) Q)
          -∗ wp frame (wpE defs₀ 𝒱₀ (c : Thread nD τ) none) Set.univ
            (.op (.enqueueDma (sView p) (.remote (c' : Thread nD τ) ((r5.slice (Rect.unit (s := S4x1024x2048) off S1x1024x2048.size inb) (fun _ => rfl)).squeeze S1024x2048 squeezes_S1x1024x2048_S1024x2048) (SemLoc.dma sS) hsc) (SemLoc.dma sR) hsrc hdst hsem) kk) Q) := by
  subst hc hoff
  obtain rfl := SemLoc.dma.inj hS
  obtain rfl := SemLoc.dma.inj hR
  have hm : (rot (g.val + 1) c).val ≠ c.val := rot_ne c _ (by omega) (by omega)
  iintro ⟨#HI, HO, Hs, Hr, HB, HrV⟩ Hk
  unfold sndB
  icases HB with ⟨HtS, HrS, HtR⟩
  iapply (Rounds.wp_send_pointsTo 𝒱₀ ER (Rd X Wm) (c : Thread nD τ) none (c' := (rot (g.val + 1) c : Thread nD τ)) (src := sView p) (dst := rView c)
      (sS := sndL g) (sem := rcvL c) (q := fullShare) (fs := f) (fd := f') (κ₁ := κ (cell c (sndL g))) (κ₂ := κ (cell (rot (g.val + 1) c) (rcvL c)))
      (r₁ := 0) (r₂ := 0) (d₁ := 0) (d₂ := 0)
      (by rw [duty_snd X Wm c g hg]; exact Finset.mem_singleton_self _) (by rw [duty_rcv X Wm _ c hm.symm]; exact Finset.mem_singleton_self _)
      2 0 ND rfl (amt_snd X Wm c g 0) (amt_rcv X Wm _ c 0) (Ow c (g.val + 4)) (Ow_rcv c (g.val + 1) (by omega) (by omega)) (W := W)
      (by rw [pay_snd X Wm c g hg p hp, sView_set]; iintro H; iexists f; iexact H)
      (by rw [pay_rcv]; exact landR X Wm c _ p f f' hf)) $$ [HO Hs Hr HtS HrS HtR HrV]
  · isplitr; · iapply (inv_dma X Wm κ c (mem_snd g hg)); iexact HI
    isplitr; · iapply (inv_dma X Wm κ (rot (g.val + 1) c) (mem_rcv c)); iexact HI
    isplitl [Hs]; · rw [sView_set]; iexact Hs
    isplitl [Hr]; · rw [rView_set]; iexact Hr
    isplitl [HO]; · iexact HO
    isplitl [HtS]; · iexact HtS
    isplitl [HrS]; · iexact HrS
    isplitl [HtR]; · iexact HtR
    iexact HrV
  iexact Hk

/-- What the amax copy to the peer k places ahead spends beside the rows. -/
def asnB (c : Dev nD) (k : Fin 4) : sProp 𝕄 :=
  iprop(dutyTok ER (cell c (asnL k)) 0 0 ∗ reached ER (cell c (asnL k)) 0 ∗ dutyTok ER (cell (rot k.val c) (arcL c)) 0 0)

theorem step_amax (c c' : Dev nD) (k : Fin 4) (hk : 1 ≤ k.val) (hc : c' = rot k.val c) (f' : Buf (Elt F) (a6.view.loc (rot k.val c : Thread nD τ)))
    (sS sR : DmaSem sig) (hS : SemLoc.dma sS = asnL k) (hR : SemLoc.dma sR = arcL c)
    (off off' : Fin 3 → ℕ) (inb : ∀ a, off a + S1x8x128.size a ≤ S4x8x128.size a) (inb' : ∀ a, off' a + S1x8x128.size a ≤ S4x8x128.size a) (hoff : off = ![c.val, 0, 0]) (hoff' : off' = ![c.val, 0, 0]) (hsc)
    (hsrc : ((a6.slice (Rect.unit (s := S4x8x128) off' S1x8x128.size inb') (fun _ => rfl)).squeeze S8x128 squeezes_S1x8x128_S8x128).view.WordExact)
    (hdst : ((a6.slice (Rect.unit (s := S4x8x128) off S1x8x128.size inb) (fun _ => rfl)).squeeze S8x128 squeezes_S1x8x128_S8x128).view.WordExact)
    (hsem : DmaTarget.Typed .vmem (SemLoc.dma sR) (.remote (c' : Thread nD τ) ((a6.slice (Rect.unit (s := S4x8x128) off S1x8x128.size inb) (fun _ => rfl)).squeeze S8x128 squeezes_S1x8x128_S8x128) (SemLoc.dma sS) hsc))
    {α : Type} {W : Waits sig ℕ}
    {kk : PUnit → Prog (TpuEff nD τ sig (Elt F) Λ₀ .tc) α} {Q : α → sProp 𝕄} :
    iprop(Invs X Wm κ ∗ owes (c : Thread nD τ) (Ow c (k.val + 5)) W ∗ aPts c c (qk k.val) (AB X Wm c) ∗ aPts (rot k.val c) c fullShare f' ∗ asnB c k ∗ reached ER (cell (rot k.val c) (arcL c)) 0)
      ⊢ iprop((iprop(cred (tallyAt (cell c (asnL k)) 0 NA) ∗ owes (c : Thread nD τ) (Ow c (k.val + 6)) W) -∗ wp frame (wpE defs₀ 𝒱₀ (c : Thread nD τ) none) Set.univ (kk ⟨⟩) Q)
          -∗ wp frame (wpE defs₀ 𝒱₀ (c : Thread nD τ) none) Set.univ
            (.op (.enqueueDma ((a6.slice (Rect.unit (s := S4x8x128) off' S1x8x128.size inb') (fun _ => rfl)).squeeze S8x128 squeezes_S1x8x128_S8x128) (.remote (c' : Thread nD τ) ((a6.slice (Rect.unit (s := S4x8x128) off S1x8x128.size inb) (fun _ => rfl)).squeeze S8x128 squeezes_S1x8x128_S8x128) (SemLoc.dma sS) hsc) (SemLoc.dma sR) hsrc hdst hsem) kk) Q) := by
  subst hc hoff hoff'
  obtain rfl := SemLoc.dma.inj hS
  obtain rfl := SemLoc.dma.inj hR
  have hk3 : k.val < 4 := k.isLt
  have hm : (rot k.val c).val ≠ c.val := rot_ne c _ hk (by omega)
  iintro ⟨#HI, HO, Hs, Hr, HB, HrV⟩ Hk
  unfold asnB
  icases HB with ⟨HtS, HrS, HtR⟩
  iapply (Rounds.wp_send_pointsTo 𝒱₀ ER (Rd X Wm) (c : Thread nD τ) none (c' := (rot k.val c : Thread nD τ)) (src := aView c) (dst := aView c)
      (sS := asnL k) (sem := arcL c) (q := qk k.val) (fs := AB X Wm c) (fd := f') (κ₁ := κ (cell c (asnL k))) (κ₂ := κ (cell (rot k.val c) (arcL c)))
      (r₁ := 0) (r₂ := 0) (d₁ := 0) (d₂ := 0)
      (by rw [duty_asn X Wm c k hk]; exact Finset.mem_singleton_self _) (by rw [duty_arc X Wm _ c hm.symm]; exact Finset.mem_singleton_self _)
      2 0 NA rfl (amt_asn X Wm c k 0) (amt_arc X Wm _ c 0) (Ow c (k.val + 6)) (Ow_arc c k.val hk (by omega)) (W := W)
      (by rw [pay_asn X Wm c k hk, aView_set])
      (by rw [pay_arc]; exact landA X Wm c _ f')) $$ [HO Hs Hr HtS HrS HtR HrV]
  · isplitr; · iapply (inv_dma X Wm κ c (mem_asn k hk)); iexact HI
    isplitr; · iapply (inv_dma X Wm κ (rot k.val c) (mem_arc c)); iexact HI
    isplitl [Hs]; · rw [aView_set]; iexact Hs
    isplitl [Hr]; · rw [aView_set]; iexact Hr
    isplitl [HO]; · iexact HO
    isplitl [HtS]; · iexact HtS
    isplitl [HrS]; · iexact HrS
    isplitl [HtR]; · iexact HtR
    iexact HrV
  iexact Hk

end Steps

end Cert.KernelIdeal.Pf

end
-- ==== Proof.Content.lean ====
/-
  What the buffers hold, element by element: a weight block after its copy, a slot after four column blocks were stored into it.
-/
module

public import proofs.«01_k».proof.Proof.Geom

@[expose] public section

noncomputable section

namespace Cert.KernelIdeal.Pf

open Cert.KernelIdeal Cert.KernelIdeal.Gen
open Idealize.ShloMosaic Idealize.ShloMosaic.TcCoe Idealize.ShloMosaic.Tactic
open Idealize.ShloMosaic.ValueIdx (ix2 ix3)

variable {F : FTy → Type} [FloatOps F]

abbrev wView (p : Fin 2) : Memref sig .tc .vmem S4096x512 .f32 := (b3.slice (wslot p) (fun _ => rfl)).squeeze S4096x512 squeezes_S1x4096x512_S4096x512

theorem wView_emb (p : Fin 2) (y : S4096x512.Idx) : (wView p).view.emb y = (ix3 p (y 0) (y 1) : S2x4096x512.Idx) := by
  rw [ValueIdx.eq_ix2 y]
  refine (congrArg (fun z => b3.view.emb ((wslot p).emb z)) (ValueIdx.reshapeEquiv_ix2_1ab (a := 4096) (b := 512) _ (y 0) (y 1))).trans ?_
  funext a; refine Fin.ext ?_
  fin_cases a
  · show p.val + 1 * 0 = p.val; omega
  · show 0 + 1 * (y 0).val = (y 0).val; omega
  · show 0 + 1 * (y 1).val = (y 1).val; omega

variable (X : Dev nD → Vec F S1024x4096 .bf16) (Wm : Dev nD → S4096x8192.Idx → Elt F .f32)

/-- A slot of the weight buffer, loaded after the copy of block q of the columns for device d has landed in it. -/
theorem load_w (c d : Dev nD) (q : Fin 4) (p : Fin 2) (g : b3.view.ty.Contents (Elt F)) (off : Fin 2 → ℕ) (inb : ∀ a, off a + S4096x512.size a ≤ S4096x8192.size a)
    (hoff : off = ![0, 2048 * d.val + 512 * q.val]) :
    View.readAt (Elt F) b3.view (wslot p).toLoadRect
      (View.write (Elt F) (wView p).view g (View.read (Elt F) (w1.slice (Rect.unit (s := S4096x8192) off S4096x512.size inb) (fun _ => rfl)).view (Wm c)) Finset.univ)
      = Wv Wm c d q := by
  subst hoff
  funext i
  have e : b3.view.emb ((wslot p).emb i) = (wView p).view.emb (ix2 (i 1) (i 2) : S4096x512.Idx) := by
    rw [wView_emb]
    funext a; refine Fin.ext ?_
    fin_cases a
    · have : (i 0).val < 1 := (i 0).isLt
      show p.val + 1 * (i 0).val = p.val; omega
    · show 0 + 1 * (i 1).val = (i 1).val; omega
    · show 0 + 1 * (i 2).val = (i 2).val; omega
  refine (congrArg (View.write (Elt F) (wView p).view g _ Finset.univ) e).trans ?_
  rw [View.write_emb_of_mem _ _ (Finset.mem_univ _)]
  refine congrArg (Wm c) ?_
  funext a; refine Fin.ext ?_
  fin_cases a
  · show 0 + 1 * (i 1).val = (i 1).val; omega
  · show 2048 * d.val + 512 * q.val + 1 * (i 2).val = 2048 * d.val + 512 * q.val + (i 2).val; omega

theorem load_x (c : Dev nD) (f : x0.view.ty.Contents (Elt F)) : View.readAt (Elt F) x0.view (Rect.unit (s := S1024x4096) ![0, 0] S1024x4096.size inb_S1024x4096_S1024x4096_0_0).toLoadRect f = f := by
  funext i
  refine congrArg f ?_
  funext a; refine Fin.ext ?_
  fin_cases a
  · show 0 + 1 * (i 0).val = (i 0).val; omega
  · show 0 + 1 * (i 1).val = (i 1).val; omega

/-- A buffer of n slots of 1024 by 2048, slot p of it stored in four column blocks. -/
theorem four_blocks {n : ℕ} (m : Memref sig .tc .vmem (⟨3, ![n, 1024, 2048]⟩ : Shape) .bf16) (p : Fin n) (h : m.view.ty.Contents (Elt F))
    (c d : Dev nD) (o0 o1 o2 o3 : Fin 3 → ℕ) (i0 i1 i2 i3) (w0 w1 w2 w3 : Vec F S1x1024x512 .bf16)
    (h0 : o0 = ![p.val, 0, 0]) (h1 : o1 = ![p.val, 0, 512]) (h2 : o2 = ![p.val, 0, 1024]) (h3 : o3 = ![p.val, 0, 1536])
    (e0 : w0 = k0_pay3 (X c) (Wv Wm c d 0)) (e1 : w1 = k0_pay3 (X c) (Wv Wm c d 1)) (e2 : w2 = k0_pay3 (X c) (Wv Wm c d 2)) (e3 : w3 = k0_pay3 (X c) (Wv Wm c d 3))
    (i : Fin 1024) (j : Fin 2048) :
    m.view.read (Elt F) (m.view.writes (Elt F) h
      [⟨Rect.unit (s := ⟨3, ![n, 1024, 2048]⟩) o3 S1x1024x512.size i3, w3⟩, ⟨Rect.unit (s := ⟨3, ![n, 1024, 2048]⟩) o2 S1x1024x512.size i2, w2⟩,
       ⟨Rect.unit (s := ⟨3, ![n, 1024, 2048]⟩) o1 S1x1024x512.size i1, w1⟩, ⟨Rect.unit (s := ⟨3, ![n, 1024, 2048]⟩) o0 S1x1024x512.size i0, w0⟩])
      (ix3 p i j) = dataAt X Wm c d i j := by
  have hj := j.isLt
  have key : ∀ (q : Fin 4) (w : Vec F S1x1024x512 .bf16) (e : w = k0_pay3 (X c) (Wv Wm c d q)) (hq : j.val / 512 = q.val),
      w (ix3 (0 : Fin 1) i (⟨j.val % 512, Nat.mod_lt _ (by decide)⟩ : Fin 512)) = dataAt X Wm c d i j := by
    intro q w e hq
    subst e
    unfold dataAt
    rw [show (⟨j.val / 512, by omega⟩ : Fin 4) = q from Fin.ext hq]
  have hit : ∀ (q : ℕ) (hq : j.val / 512 = q), ∀ a : Fin 3, ((ix3 p i j : (⟨3, ![n, 1024, 2048]⟩ : Shape).Idx) a).val
      = (![p.val, 0, 512 * q] : Fin 3 → ℕ) a + ((ix3 (0 : Fin 1) i (⟨j.val % 512, Nat.mod_lt _ (by decide)⟩ : Fin 512) : S1x1024x512.Idx) a).val := by
    intro q hq a
    fin_cases a
    · show p.val = p.val + 0; omega
    · show i.val = 0 + i.val; omega
    · show j.val = 512 * q + j.val % 512; omega
  have : j.val / 512 = 0 ∨ j.val / 512 = 1 ∨ j.val / 512 = 2 ∨ j.val / 512 = 3 := by omega
  rcases this with hq | hq | hq | hq
  · rw [View.read_writes_cons_unit_of_not_mem _ _ _ _ _ _ h3 (2 : Fin 3) (.inl (by show j.val < 1536; omega)),
      View.read_writes_cons_unit_of_not_mem _ _ _ _ _ _ h2 (2 : Fin 3) (.inl (by show j.val < 1024; omega)),
      View.read_writes_cons_unit_of_not_mem _ _ _ _ _ _ h1 (2 : Fin 3) (.inl (by show j.val < 512; omega)),
      View.read_writes_cons_unit_of_mem _ _ _ _ _ _ (ix3 (0 : Fin 1) i (⟨j.val % 512, Nat.mod_lt _ (by decide)⟩ : Fin 512)) h0 (hit 0 hq)]
    exact key 0 w0 e0 hq
  · rw [View.read_writes_cons_unit_of_not_mem _ _ _ _ _ _ h3 (2 : Fin 3) (.inl (by show j.val < 1536; omega)),
      View.read_writes_cons_unit_of_not_mem _ _ _ _ _ _ h2 (2 : Fin 3) (.inl (by show j.val < 1024; omega)),
      View.read_writes_cons_unit_of_mem _ _ _ _ _ _ (ix3 (0 : Fin 1) i (⟨j.val % 512, Nat.mod_lt _ (by decide)⟩ : Fin 512)) h1 (hit 1 hq)]
    exact key 1 w1 e1 hq
  · rw [View.read_writes_cons_unit_of_not_mem _ _ _ _ _ _ h3 (2 : Fin 3) (.inl (by show j.val < 1536; omega)),
      View.read_writes_cons_unit_of_mem _ _ _ _ _ _ (ix3 (0 : Fin 1) i (⟨j.val % 512, Nat.mod_lt _ (by decide)⟩ : Fin 512)) h2 (hit 2 hq)]
    exact key 2 w2 e2 hq
  · rw [View.read_writes_cons_unit_of_mem _ _ _ _ _ _ (ix3 (0 : Fin 1) i (⟨j.val % 512, Nat.mod_lt _ (by decide)⟩ : Fin 512)) h3 (hit 3 hq)]
    exact key 3 w3 e3 hq

/-- The largest entry of a block. -/
def blockMax (y : FVec F S1024x512 .f32) : F .f32 :=
  extractAt ![0, 0, 0] (shapeCast S1x1x1 (multiReduction (F := F) .maximumf [1, 2] S1 (shapeCast S1x1024x512 y shapeCasts_S1024x512_S1x1024x512)
    0xFF800000#32 reduces_S1x1024x512_S1 (.inl rfl) rfl) shapeCasts_S1_S1x1x1) inpos_S1x1x1_p0_0_0

/-- One more block taken into the running maximum. -/
theorem max_step (c : Dev nD) (n : ℕ) (q : Fin 4) (hq : q.val = n % 4) (v : F .f32) (y : FVec F S1024x512 .f32)
    (hv : v = runMax X Wm c n) (hy : y = k0_pay1 (X c) (Wv Wm c (rot (n / 4 + 1) c) q)) :
    Scalar.maximumf v (blockMax y) = runMax X Wm c (n + 1) := by
  subst hv hy
  rw [show q = (⟨n % 4, Nat.mod_lt _ (by decide)⟩ : Fin 4) from Fin.ext hq]
  rfl

theorem split_max (v : F .f32) (x : Vec F S1024x4096 .bf16) (w : Vec F S1x4096x512 .f32) :
    k0_pay22 v (k0_pay21 x w) = Scalar.maximumf v (blockMax (k0_pay20 x w)) := rfl

section Own

open Idealize.SL Idealize.SL.RA Idealize.SL.BI Idealize.SL.BI.BIClass
open scoped Idealize.SL.BI
open Idealize.SL.BI.BIBase Idealize.SL.BI.Laws Idealize.SL.ProofMode Idealize.SL.Sem

local notation "𝕄" => MT nD τ sig ℕ (Elt F) ℕ UU ℕ

/-- The own slot of the recv buffer, once it holds what the device computed for itself. -/
theorem own_slot (c : Dev nD) (f : Buf (Elt F) (r5.view.loc (c : Thread nD τ)))
    (hf : ∀ (i : Fin 1024) (j : Fin 2048), r5.view.read (Elt F) f (ix3 c i j : S4x1024x2048.Idx) = dataAt X Wm c c i j) :
    (rPts c c f : sProp 𝕄) ⊢ rPts c c (RB X Wm c) := by
  refine Entails.of_eq (pointsTo_congr (U := UU) fun i hi => ?_)
  rw [← rView_set] at hi
  obtain ⟨y, -, rfl⟩ := Finset.mem_map.mp hi
  exact (congrArg f (rView_emb c y)).trans ((hf (y 0) (y 1)).trans (congrArg (RB X Wm c) (rView_emb c y)).symm)

/-- The own row of the amax buffer, once it holds the largest entry. -/
theorem own_row (c : Dev nD) (f : Buf (Elt F) (a6.view.loc (c : Thread nD τ)))
    (hf : ∀ (i : Fin 8) (j : Fin 128), a6.view.read (Elt F) f (ix3 c i j : S4x8x128.Idx) = amaxOf X Wm c) :
    (aPts c c fullShare f : sProp 𝕄) ⊢ aPts c c fullShare (AB X Wm c) := by
  refine Entails.of_eq (pointsTo_congr (U := UU) fun i hi => ?_)
  rw [← aView_set] at hi
  obtain ⟨y, -, rfl⟩ := Finset.mem_map.mp hi
  exact (congrArg f (aView_emb c y)).trans ((hf (y 0) (y 1)).trans (congrArg (AB X Wm c) (aView_emb c y)).symm)

/-- What the store of the largest entry leaves in the row. -/
theorem row_store (c : Dev nD) (h : a6.view.ty.Contents (Elt F)) (o : Fin 3 → ℕ) (i0) (v : F .f32) (a : FVec F S1024x4096 .bf16) (b : FVec F S4096x512 .bf16) (z : FVec F S1024x512 .f32)
    (ho : o = ![c.val, 0, 0]) (hv : Scalar.maximumf v (blockMax (k0_pay52 a b z)) = runMax X Wm c 16) (i : Fin 8) (j : Fin 128) :
    a6.view.read (Elt F) (a6.view.writes (Elt F) h [⟨Rect.unit (s := S4x8x128) o S1x8x128.size i0, k0_pay54 v a b z⟩]) (ix3 c i j : S4x8x128.Idx) = amaxOf X Wm c := by
  rw [View.read_writes_cons_unit_of_mem a6.view h i0 _ [] _ (ix3 (0 : Fin 1) i j : S1x8x128.Idx) ho (by
    intro k
    fin_cases k
    · show c.val = c.val + 0; omega
    · show i.val = 0 + i.val; omega
    · show j.val = 0 + j.val; omega)]
  exact hv

end Own

end Cert.KernelIdeal.Pf

end
-- ==== Proof.Slots.lean ====
/-
  A buffer cut into its slots, and put together again.
-/
module

public import proofs.«01_k».proof.Proof.Geom

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- A buffer every element of which lies in the piece its key names is the separate sum of its pieces. -/
theorem pieces {T : Type} [Fintype T] {ℓ : Loc nD τ sig} (K : T → Finset (Idx ℓ)) (key : Idx ℓ → T) (hK : ∀ t i, i ∈ K t ↔ key i = t)
    (q : PosShare TreeShare) (f : Buf (Elt F) ℓ) : (ℓ ↦{q} f : sProp 𝕄) = bigSep Finset.univ fun t => ℓ ↦[K t]{q} f := by
  rw [← pointsTo_biUnion Finset.univ K (fun t _ t' _ h => Finset.disjoint_left.mpr fun i hi hi' => h (((hK t i).mp hi).symm.trans ((hK t' i).mp hi')))]
  congr 1
  ext i
  simp only [Finset.mem_univ, Finset.mem_biUnion, true_and, true_iff]
  exact ⟨key i, (hK _ i).mpr rfl⟩

/-- The pieces at contents of their own are the buffer at some contents. -/
theorem pieces_join {T : Type} [Fintype T] {ℓ : Loc nD τ sig} (K : T → Finset (Idx ℓ)) (key : Idx ℓ → T) (hK : ∀ t i, i ∈ K t ↔ key i = t)
    (q : PosShare TreeShare) (fs : T → Buf (Elt F) ℓ) : bigSep Finset.univ (fun t => ℓ ↦[K t]{q} fs t) ⊢ (iprop(∃ g, ℓ ↦{q} g) : sProp 𝕄) := by
  have e : Finset.univ.biUnion K = (Finset.univ : Finset (Idx ℓ)) := by
    ext i
    simp only [Finset.mem_univ, Finset.mem_biUnion, true_and, iff_true]
    exact ⟨key i, (hK _ i).mpr rfl⟩
  by_cases hT : Nonempty T
  · obtain ⟨t₀⟩ := hT
    refine (pointsTo_biUnion_join (q := q) Finset.univ K fs (fs t₀)
      (fun t _ t' _ h => Finset.disjoint_left.mpr fun i hi hi' => h (((hK t i).mp hi).symm.trans ((hK t' i).mp hi')))).trans ?_
    rw [e]
    iintro ⟨%g, -, H⟩
    iexists g; iexact H
  · have f : Buf (Elt F) ℓ := fun i => absurd ⟨key i⟩ hT
    rw [Finset.univ_eq_empty_iff.mpr (not_nonempty_iff.mp hT), bigSep_empty]
    iintro -
    iexists f
    rw [show (Finset.univ : Finset (Idx ℓ)) = ∅ from Finset.univ_eq_empty_iff.mpr ⟨fun i => hT ⟨key i⟩⟩, pointsTo_empty]
    iempintro

theorem mem_slot {n a b : ℕ} (p : Fin n) (inb) (i : (⟨3, ![n, a, b]⟩ : Shape).Idx) :
    i ∈ (Rect.unit (s := ⟨3, ![n, a, b]⟩) ![p.val, 0, 0] (⟨3, ![1, a, b]⟩ : Shape).size inb).set ↔ (i 0 : Fin n) = p := by
  refine Rect.mem_set_unit.trans ⟨fun h => Fin.ext ?_, fun h k => ?_⟩
  · have := h 0; change p.val ≤ (i 0).val ∧ (i 0).val < p.val + 1 at this; omega
  · subst h; have := (i k).isLt
    fin_cases k
    · show (i 0).val ≤ (i 0).val ∧ (i 0).val < (i 0).val + 1; omega
    · exact ⟨Nat.zero_le _, by show (i 1).val < 0 + a; exact (Nat.zero_add _).symm ▸ this⟩
    · exact ⟨Nat.zero_le _, by show (i 2).val < 0 + b; exact (Nat.zero_add _).symm ▸ this⟩

theorem key_w (p : Fin 2) (i : S2x4096x512.Idx) : i ∈ b3.view.setOn (wslot p).set ↔ (i 0 : Fin 2) = p :=
  (View.mem_setOn b3.view (x := i)).trans (mem_slot p _ i)
theorem key_s (p : Fin 2) (i : S2x1024x2048.Idx) : i ∈ s4.view.setOn (sslot p).set ↔ (i 0 : Fin 2) = p :=
  (View.mem_setOn s4.view (x := i)).trans (mem_slot p _ i)
theorem key_r (p : Dev nD) (i : S4x1024x2048.Idx) : i ∈ r5.view.setOn (rslot p).set ↔ (i 0 : Fin 4) = p :=
  (View.mem_setOn r5.view (x := i)).trans (mem_slot (n := 4) p _ i)
theorem key_a (p : Dev nD) (i : S4x8x128.Idx) : i ∈ a6.view.setOn (arow p).set ↔ (i 0 : Fin 4) = p :=
  (View.mem_setOn a6.view (x := i)).trans (mem_slot (n := 4) p _ i)

/-- The devices, counted from c. -/
theorem four (c : Dev nD) (P : Dev nD → sProp 𝕄) : bigSep Finset.univ P = iprop(P c ∗ P (rot 1 c) ∗ P (rot 2 c) ∗ P (rot 3 c)) := by
  rw [show (Finset.univ : Finset (Dev nD)) = insert c (insert (rot 1 c) (insert (rot 2 c) {rot 3 c})) by revert c; decide +kernel,
    bigSep_insert (by revert c; decide +kernel), bigSep_insert (by revert c; decide +kernel), bigSep_insert (by revert c; decide +kernel), bigSep_singleton]
  rfl

theorem two (P : Fin 2 → sProp 𝕄) : bigSep Finset.univ P = iprop(P 0 ∗ P 1) := by
  rw [show (Finset.univ : Finset (Fin 2)) = insert 0 {1} by decide +kernel, bigSep_insert (by decide +kernel), bigSep_singleton]
  rfl

/-- The amax buffer is its four rows. -/
theorem rows (c : Dev nD) (q : PosShare TreeShare) (f : Buf (Elt F) (a6.view.loc (c : Thread nD τ))) :
    (a6.view.loc (c : Thread nD τ) ↦{q} f : sProp 𝕄) = iprop(aPts c c q f ∗ aPts c (rot 1 c) q f ∗ aPts c (rot 2 c) q f ∗ aPts c (rot 3 c) q f) :=
  (pieces (ℓ := a6.view.loc (c : Thread nD τ)) (fun s : Dev nD => a6.view.setOn (arow s).set) (fun i => (i : S4x8x128.Idx) 0) key_a q f).trans (four c _)

/-- The recv buffer is its four slots. -/
theorem slots (c : Dev nD) (f : Buf (Elt F) (r5.view.loc (c : Thread nD τ))) :
    (r5.view.loc (c : Thread nD τ) ↦{fullShare} f : sProp 𝕄) = iprop(rPts c c f ∗ rPts c (rot 1 c) f ∗ rPts c (rot 2 c) f ∗ rPts c (rot 3 c) f) :=
  (pieces (ℓ := r5.view.loc (c : Thread nD τ)) (fun s : Dev nD => r5.view.setOn (rslot s).set) (fun i => (i : S4x1024x2048.Idx) 0) key_r fullShare f).trans (four c _)

/-- The send buffer is its two slots. -/
theorem sends (c : Dev nD) (f : Buf (Elt F) (s4.view.loc (c : Thread nD τ))) :
    (s4.view.loc (c : Thread nD τ) ↦{fullShare} f : sProp 𝕄) = iprop(sPts c 0 f ∗ sPts c 1 f) :=
  (pieces (ℓ := s4.view.loc (c : Thread nD τ)) (fun s : Fin 2 => s4.view.setOn (sslot s).set) (fun i => (i : S2x1024x2048.Idx) 0) key_s fullShare f).trans (two _)
theorem sends_join (c : Dev nD) (f g : Buf (Elt F) (s4.view.loc (c : Thread nD τ))) :
    iprop(sPts c 0 f ∗ sPts c 1 g) ⊢ (iprop(∃ h, s4.view.loc (c : Thread nD τ) ↦{fullShare} h) : sProp 𝕄) :=
  (Entails.of_eq (two _).symm).trans
    (pieces_join (ℓ := s4.view.loc (c : Thread nD τ)) (fun s : Fin 2 => s4.view.setOn (sslot s).set) (fun i => (i : S2x1024x2048.Idx) 0) key_s fullShare ![f, g])

/-- A slot of the weight buffer of device c. -/
abbrev wPts (c : Dev nD) (p : Fin 2) (f : Buf (Elt F) (b3.view.loc (c : Thread nD τ))) : sProp 𝕄 :=
  b3.view.loc (c : Thread nD τ) ↦[b3.view.setOn (wslot p).set]{fullShare} f

/-- The weight buffer is its two slots. -/
theorem weights (c : Dev nD) (f : Buf (Elt F) (b3.view.loc (c : Thread nD τ))) :
    (b3.view.loc (c : Thread nD τ) ↦{fullShare} f : sProp 𝕄) = iprop(wPts c 0 f ∗ wPts c 1 f) :=
  (pieces (ℓ := b3.view.loc (c : Thread nD τ)) (fun s : Fin 2 => b3.view.setOn (wslot s).set) (fun i => (i : S2x4096x512.Idx) 0) key_w fullShare f).trans (two _)
theorem weights_join (c : Dev nD) (f g : Buf (Elt F) (b3.view.loc (c : Thread nD τ))) :
    iprop(wPts c 0 f ∗ wPts c 1 g) ⊢ (iprop(∃ h, b3.view.loc (c : Thread nD τ) ↦{fullShare} h) : sProp 𝕄) :=
  (Entails.of_eq (two _).symm).trans
    (pieces_join (ℓ := b3.view.loc (c : Thread nD τ)) (fun s : Fin 2 => b3.view.setOn (wslot s).set) (fun i => (i : S2x4096x512.Idx) 0) key_w fullShare ![f, g])

/-- Slot k places ahead of c, named as the kernel's load names it. -/
theorem slot_load (c s : Dev nD) (k : Fin 3) (hs : s = rot (k.val + 1) c) (w : BitVec 32) (hw : w = BitVec.ofNat 32 (k.val + 1)) (inb) (f : Buf (Elt F) (r5.view.loc (c : Thread nD τ))) :
    (rPts c s f : sProp 𝕄)
      = (r5.view.loc (c : Thread nD τ) ↦[r5.view.setOn (Rect.unit (s := S4x1024x2048) (k0_off15 c w) S1x1024x2048.size inb).set]{fullShare} f) := by
  subst hw hs
  revert inb
  rw [off15_eq]
  intro inb; rfl

end Cert.KernelIdeal.Pf

end
-- ==== Proof.Out.lean ====
/-
  The result on a device: four blocks of rows, each the quantised data of one device, and what the four copies leave.
-/
module

public import proofs.«01_k».proof.Proof.Content

@[expose] public section

noncomputable section

namespace Cert.KernelIdeal.Pf

open Cert.KernelIdeal Cert.KernelIdeal.Gen
open Idealize.ShloMosaic Idealize.ShloMosaic.TcCoe Idealize.ShloMosaic.Tactic
open Idealize.ShloMosaic.ValueIdx (ix2 ix3)

variable {F : FTy → Type} [FloatOps F]

variable (X : Dev nD → Vec F S1024x4096 .bf16) (Wm : Dev nD → S4096x8192.Idx → Elt F .f32)

/-- The amax buffer of device c as a vector, and slot s of its recv buffer. -/
def amaxVec (c : Dev nD) : Vec F S4x8x128 .f32 := AB X Wm c
def slotVec (c s : Dev nD) : Vec F S1x1024x2048 .bf16 := fun i => dataAt X Wm s c (i 1) (i 2)

/-- What device c stores for the rows of device s. -/
def blockOut (c s : Dev nD) : Vec F S1024x2048 .bf16 := k0_pay58 (k0_pay56 (amaxVec X Wm c)) (k0_pay57 (amaxVec X Wm c)) (slotVec X Wm c s)

/-- The device a row of the result belongs to. -/
def blk (I : S4096x2048.Idx) : Dev nD := ⟨(I 0).val / 1024, by have : (I 0).val < 4096 := (I 0).isLt; show _ < 4; omega⟩

/-- The result on device c. -/
def OutB (c : Dev nD) : Buf (Elt F) (o2.view.loc (c : Thread nD τ)) := fun (I : S4096x2048.Idx) =>
  blockOut X Wm c (blk I) (ix2 (⟨(I 0).val % 1024, Nat.mod_lt _ (by decide)⟩ : Fin 1024) (I 1))

theorem load_a (c : Dev nD) : View.readAt (Elt F) a6.view (Rect.unit (s := S4x8x128) ![0, 0, 0] S4x8x128.size inb_S4x8x128_S4x8x128_0_0_0).toLoadRect (AB X Wm c) = amaxVec X Wm c := by
  funext i
  refine congrArg (AB X Wm c) ?_
  funext a; refine Fin.ext ?_
  fin_cases a
  · show 0 + 1 * (i 0).val = (i 0).val; omega
  · show 0 + 1 * (i 1).val = (i 1).val; omega
  · show 0 + 1 * (i 2).val = (i 2).val; omega

theorem load_slot (c s : Dev nD) (off : Fin 3 → ℕ) (inb : ∀ a, off a + S1x1024x2048.size a ≤ S4x1024x2048.size a) (hoff : off = ![s.val, 0, 0]) :
    View.readAt (Elt F) r5.view (Rect.unit (s := S4x1024x2048) off S1x1024x2048.size inb).toLoadRect (RB X Wm c) = slotVec X Wm c s := by
  subst hoff
  funext i
  have e : (Rect.unit (s := S4x1024x2048) ![s.val, 0, 0] S1x1024x2048.size inb).emb i = (ix3 s (i 1) (i 2) : S4x1024x2048.Idx) := by
    funext a; refine Fin.ext ?_
    fin_cases a
    · have : (i 0).val < 1 := (i 0).isLt
      show s.val + 1 * (i 0).val = s.val; omega
    · show 0 + 1 * (i 1).val = (i 1).val; omega
    · show 0 + 1 * (i 2).val = (i 2).val; omega
  exact congrArg (RB X Wm c) e

/-- The staging buffer, read whole after it was stored whole. -/
theorem stage_read (h : t7.view.ty.Contents (Elt F)) (L) (inb) (w : Vec F S1024x2048 .bf16) :
    View.read (Elt F) t7.view (t7.view.writes (Elt F) h (⟨Rect.unit (s := S1024x2048) ![0, 0] S1024x2048.size inb, w⟩ :: L)) = w := by
  funext i
  refine View.read_writes_cons_unit_of_mem t7.view h inb w L i i rfl ?_
  intro a
  fin_cases a
  · show (i 0).val = 0 + (i 0).val; omega
  · show (i 1).val = 0 + (i 1).val; omega

theorem stage (c s : Dev nD) (h : t7.view.ty.Contents (Elt F)) (L) (inb) (p : Vec F S1024x2048 .bf16) (a b : F .f32) (v : Vec F S1x1024x2048 .bf16)
    (ha : a = k0_pay56 (amaxVec X Wm c)) (hb : b = k0_pay57 (amaxVec X Wm c)) (hv : v = slotVec X Wm c s)
    (hp : p = k0_pay58 a b v) :
    View.read (Elt F) t7.view (t7.view.writes (Elt F) h (⟨Rect.unit (s := S1024x2048) ![0, 0] S1024x2048.size inb, p⟩ :: L)) = blockOut X Wm c s := by
  rw [stage_read, hp, ha, hb, hv]; rfl

/-- One copy out: the rows of device s join those that are right already. -/
theorem out_step (c s : Dev nD) (P : Dev nD → Prop) (f : o2.view.ty.Contents (Elt F)) (off : Fin 2 → ℕ) (inb : ∀ a, off a + S1024x2048.size a ≤ S4096x2048.size a)
    (hoff : off = ![1024 * s.val, 0]) (w : Vec F S1024x2048 .bf16) (hw : w = blockOut X Wm c s) (hf : ∀ I : S4096x2048.Idx, P (blk I) → f I = OutB X Wm c I) :
    ∀ I : S4096x2048.Idx, P (blk I) ∨ blk I = s →
      View.write (Elt F) (o2.slice (Rect.unit (s := S4096x2048) off S1024x2048.size inb) (fun _ => rfl)).view f w Finset.univ I = OutB X Wm c I := by
  subst hoff hw
  intro I hI
  have hI0 : (I 0).val < 4096 := (I 0).isLt
  by_cases hs : blk I = s
  · have hv : (I 0).val / 1024 = s.val := congrArg Fin.val hs
    have e : I = (o2.slice (Rect.unit (s := S4096x2048) ![1024 * s.val, 0] S1024x2048.size inb) (fun _ => rfl)).view.emb
        (ix2 (⟨(I 0).val % 1024, Nat.mod_lt _ (by decide)⟩ : Fin 1024) (I 1) : S1024x2048.Idx) := by
      funext a; refine Fin.ext ?_
      fin_cases a
      · show (I 0).val = 1024 * s.val + 1 * ((I 0).val % 1024); omega
      · show (I 1).val = 0 + 1 * (I 1).val; omega
    refine (congrArg (View.write (Elt F) (o2.slice (Rect.unit (s := S4096x2048) ![1024 * s.val, 0] S1024x2048.size inb) (fun _ => rfl)).view f _ Finset.univ) e).trans ?_
    rw [View.write_emb_of_mem _ _ (Finset.mem_univ _)]
    subst hs; rfl
  · have hv : (I 0).val / 1024 ≠ s.val := fun h => hs (Fin.ext h)
    refine (View.write_of_not_mem _ _ _ ?_).trans (hf I (hI.resolve_right hs))
    intro hm
    obtain ⟨y, -, hy⟩ := Finset.mem_map.mp hm
    have h0 : 1024 * s.val + 1 * (y 0).val = (I 0).val := congrArg (fun z : S4096x2048.Idx => (z 0).val) hy
    have : (y 0).val < 1024 := (y 0).isLt
    omega

/-- Every row belongs to one of the four. -/
theorem blk_all (c : Dev nD) (b : Dev nD) : (((False ∨ b = c) ∨ b = rot 3 c) ∨ b = rot 2 c) ∨ b = rot 1 c := by
  revert b c; decide +kernel

end Cert.KernelIdeal.Pf

end
-- ==== Proof.Body.lean ====
/-
  The kernel's body at a symbolic device.
-/
module

public import proofs.«01_k».proof.Proof.Steps
public import proofs.«01_k».proof.Proof.Content
public import proofs.«01_k».proof.Proof.Slots
public import proofs.«01_k».proof.Proof.Out

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.TalkSites (Fam Pay tallyL addL credOf)

variable {F : FTy → Type} [FloatOps F]

local notation "𝕄" => MT nD τ sig ℕ (Elt F) ℕ UU ℕ

section Body

variable (X : Dev nD → Vec F S1024x4096 .bf16) (Wm : Dev nD → S4096x8192.Idx → Elt F .f32) (κ : GSem nD τ sig → ℕ)

/-- The protocol's state of device c before its body. -/
def talkPre (c : Dev nD) : sProp 𝕄 :=
  iprop((sigB c 1 ∗ sigB c 2 ∗ sigB c 3) ∗ (sndB c 0 ∗ sndB c 1 ∗ sndB c 2) ∗ (asnB c 1 ∗ asnB c 2 ∗ asnB c 3)
    ∗ (atPos ER (cell c barL) 0 ∅ 0 ∗ cred (tallyAt (cell c barL) 1 3))
    ∗ (atPos ER (cell c (sndL 0)) 0 ∅ 0 ∗ atPos ER (cell c (sndL 1)) 0 ∅ 0 ∗ atPos ER (cell c (sndL 2)) 0 ∅ 0)
    ∗ (atPos ER (cell c (asnL 1)) 0 ∅ 0 ∗ atPos ER (cell c (asnL 2)) 0 ∅ 0 ∗ atPos ER (cell c (asnL 3)) 0 ∅ 0)
    ∗ (atPos ER (cell c (rcvL (rot 1 c))) 0 ∅ 0 ∗ atPos ER (cell c (rcvL (rot 2 c))) 0 ∅ 0 ∗ atPos ER (cell c (rcvL (rot 3 c))) 0 ∅ 0)
    ∗ (atPos ER (cell c (arcL (rot 1 c))) 0 ∅ 0 ∗ atPos ER (cell c (arcL (rot 2 c))) 0 ∅ 0 ∗ atPos ER (cell c (arcL (rot 3 c))) 0 ∅ 0)
    ∗ (cred (tallyAt (cell c (rcvL (rot 1 c))) 2 ND) ∗ cred (tallyAt (cell c (rcvL (rot 2 c))) 2 ND) ∗ cred (tallyAt (cell c (rcvL (rot 3 c))) 2 ND))
    ∗ (cred (tallyAt (cell c (arcL (rot 1 c))) 2 NA) ∗ cred (tallyAt (cell c (arcL (rot 2 c))) 2 NA) ∗ cred (tallyAt (cell c (arcL (rot 3 c))) 2 NA)))

abbrev w0L : SemLoc sig := .dma (1 : Fin 20)
abbrev w1L : SemLoc sig := .dma (2 : Fin 20)
abbrev outL : SemLoc sig := .dma (19 : Fin 20)

/-- The protocol's state of device c after its body: every cell it waited on is past its round. -/
def talkPost (c : Dev nD) : sProp 𝕄 :=
  iprop(atPos ER (cell c barL) (0 + 1) ∅ 0
    ∗ (atPos ER (cell c (sndL 0)) (0 + 1) ∅ 0 ∗ atPos ER (cell c (sndL 1)) (0 + 1) ∅ 0 ∗ atPos ER (cell c (sndL 2)) (0 + 1) ∅ 0)
    ∗ (atPos ER (cell c (asnL 1)) (0 + 1) ∅ 0 ∗ atPos ER (cell c (asnL 2)) (0 + 1) ∅ 0 ∗ atPos ER (cell c (asnL 3)) (0 + 1) ∅ 0)
    ∗ (atPos ER (cell c (rcvL (rot 1 c))) (0 + 1) ∅ 0 ∗ atPos ER (cell c (rcvL (rot 2 c))) (0 + 1) ∅ 0 ∗ atPos ER (cell c (rcvL (rot 3 c))) (0 + 1) ∅ 0)
    ∗ (atPos ER (cell c (arcL (rot 1 c))) (0 + 1) ∅ 0 ∗ atPos ER (cell c (arcL (rot 2 c))) (0 + 1) ∅ 0 ∗ atPos ER (cell c (arcL (rot 3 c))) (0 + 1) ∅ 0))

/-- What device c holds after its body. -/
def bodyPost (c : Dev nD) : sProp 𝕄 :=
  iprop((x0.view.loc (c : Thread nD τ) ↦{fullShare} (X c : Buf (Elt F) (x0.view.loc (c : Thread nD τ))))
    ∗ (w1.view.loc (c : Thread nD τ) ↦{fullShare} (Wm c : Buf (Elt F) (w1.view.loc (c : Thread nD τ))))
    ∗ ((∃ g, b3.view.loc (c : Thread nD τ) ↦{fullShare} g) ∗ (∃ g, s4.view.loc (c : Thread nD τ) ↦{fullShare} g)
      ∗ (∃ g, r5.view.loc (c : Thread nD τ) ↦{fullShare} g) ∗ (∃ g, a6.view.loc (c : Thread nD τ) ↦{fullShare} g)
      ∗ (∃ g, t7.view.loc (c : Thread nD τ) ↦{fullShare} g))
    ∗ (o2.view.loc (c : Thread nD τ) ↦{fullShare} OutB X Wm c)
    ∗ (semVal (cell c w0L) 0 ∗ semVal (cell c w1L) 0 ∗ semVal (cell c outL) 0)
    ∗ (∃ W', owes (c : Thread nD τ) 0 W') ∗ talkPost c)

/-- What is left of an arrived amax row once the share the whole buffer is read at is set apart. -/
def aside (c s : Dev nD) : sProp 𝕄 := iprop(aPts c s (qk 1) (AB X Wm c) ∗ (aPts c s (qk 2) (AB X Wm c) ∗ aPts c s (qk 3) (AB X Wm c)))

theorem setAside (c s : Dev nD) : (aPts c s fullShare (AB X Wm c) : sProp 𝕄) ⊣⊢ iprop(aPts c s q0 (AB X Wm c) ∗ aside X Wm c s) := by
  unfold aside
  constructor
  · refine (aPts_shares c s _).1.trans ?_
    iintro ⟨⟨H0, H1⟩, H2, H3⟩
    isplitl [H0]; · iexact H0
    isplitl [H1]; · iexact H1
    isplitl [H2]; · iexact H2
    iexact H3
  · have h := (aPts_shares c s (AB X Wm c)).2
    iintro ⟨H0, H1, H2, H3⟩
    iapply h
    isplitl [H0 H1]
    · isplitl [H0]; · iexact H0
      iexact H1
    isplitl [H2]; · iexact H2
    iexact H3

/-- The amax buffer, whole and full, from the share it was read at and the shares set apart. -/
theorem amax_back (c : Dev nD) :
    iprop((a6.view.loc (c : Thread nD τ) ↦{q0} AB X Wm c) ∗ (aPts c c (qk 1) (AB X Wm c) ∗ aPts c c (qk 2) (AB X Wm c) ∗ aPts c c (qk 3) (AB X Wm c))
      ∗ aside X Wm c (rot 1 c) ∗ aside X Wm c (rot 2 c) ∗ aside X Wm c (rot 3 c)) ⊢ (a6.view.loc (c : Thread nD τ) ↦{fullShare} AB X Wm c : sProp 𝕄) := by
  rw [rows c q0, rows c fullShare]
  have h := (aPts_shares c c (AB X Wm c)).2
  iintro ⟨⟨H0, H1, H2, H3⟩, ⟨Hq1, Hq2, Hq3⟩, Hx1, Hx2, Hx3⟩
  isplitl [H0 Hq1 Hq2 Hq3]
  · iapply h
    isplitl [H0 Hq1]
    · isplitl [H0]; · iexact H0
      iexact Hq1
    isplitl [Hq2]; · iexact Hq2
    iexact Hq3
  isplitl [H1 Hx1]
  · iapply (setAside X Wm c (rot 1 c)).2
    isplitl [H1]; · iexact H1
    iexact Hx1
  isplitl [H2 Hx2]
  · iapply (setAside X Wm c (rot 2 c)).2
    isplitl [H2]; · iexact H2
    iexact Hx2
  iapply (setAside X Wm c (rot 3 c)).2
  isplitl [H3]; · iexact H3
  iexact Hx3

theorem pin {ℓ : Loc nD τ sig} {I : Finset _} {q : PosShare TreeShare} (f : Buf (Elt F) ℓ) : (ℓ ↦[I]{q} f : sProp 𝕄) ⊢ iprop(∃ g, ⌜g = f⌝ ∗ ℓ ↦[I]{q} g) := by
  iintro H; iexists f
  isplitr; · ipureintro; rfl
  iexact H

set_option maxRecDepth 100000 in
set_option maxHeartbeats 4000000 in
theorem run_body (c : Dev nD) (W : Waits sig ℕ)
    (g0 g1 : Buf (Elt F) (b3.view.loc (c : Thread nD τ))) (h0 h1 : Buf (Elt F) (s4.view.loc (c : Thread nD τ)))
    (hr : Buf (Elt F) (r5.view.loc (c : Thread nD τ))) (ha : Buf (Elt F) (a6.view.loc (c : Thread nD τ)))
    (ht : Buf (Elt F) (t7.view.loc (c : Thread nD τ))) (ho : Buf (Elt F) (o2.view.loc (c : Thread nD τ))) :
   iprop((Invs X Wm κ ∗ levAts L lv)
    ∗ (x0.view.loc (c : Thread nD τ) ↦{fullShare} (X c : Buf (Elt F) (x0.view.loc (c : Thread nD τ))))
    ∗ (w1.view.loc (c : Thread nD τ) ↦{fullShare} (Wm c : Buf (Elt F) (w1.view.loc (c : Thread nD τ))))
    ∗ (wPts c 0 g0 ∗ wPts c 1 g1 ∗ sPts c 0 h0 ∗ sPts c 1 h1 ∗ rPts c c hr ∗ aPts c c fullShare ha
    ∗ (t7.view.loc (c : Thread nD τ) ↦{fullShare} ht) ∗ (o2.view.loc (c : Thread nD τ) ↦{fullShare} ho))
    ∗ (semVal (cell c w0L) 0 ∗ semVal (cell c w1L) 0 ∗ semVal (cell c outL) 0)
    ∗ owes (c : Thread nD τ) (Ow c 0) W ∗ talkPre c)
   ⊢ (wp frame (wpE defs₀ 𝒱₀ (c : Thread nD τ) none) Set.univ
      (cc0_body (F := F) x0 (Memref.isWhole_whole _) w1 (Memref.isWhole_whole _) o2 (Memref.isWhole_whole _) b3 (Memref.isWhole_whole _) s4 (Memref.isWhole_whole _) r5 (Memref.isWhole_whole _) a6 (Memref.isWhole_whole _) t7 (Memref.isWhole_whole _) cc0_scratch5 cc0_scratch6 cc0_scratch7 cc0_scratch8 cc0_scratch9 cc0_scratch10)
      (fun _ => bodyPost X Wm c) : sProp 𝕄) := by
  unfold talkPre
  iintro ⟨⟨#HI, #Hlev⟩, Hx, Hw, ⟨Hg0, Hg1, Hh0, Hh1, Hr, Ha, Ht, Ho⟩, ⟨Hs0, Hs1, Hso⟩, HO,
    ⟨HB1, HB2, HB3⟩, ⟨HS1, HS2, HS3⟩, ⟨HA1, HA2, HA3⟩, ⟨HatB, HcB⟩, ⟨HatS1, HatS2, HatS3⟩, ⟨HatA1, HatA2, HatA3⟩,
    ⟨HatR1, HatR2, HatR3⟩, ⟨HatC1, HatC2, HatC3⟩, ⟨HcR1, HcR2, HcR3⟩, ⟨HcC1, HcC2, HcC3⟩⟩
  unfold cc0_body
  sl_exec
  iapply (step_signal X Wm κ c _ 1 (by decide) (by decide) (dev1 c)) $$ [HO HB1]
  · isplitr; · iexact HI
    isplitl [HO]; · iexact HO
    iexact HB1
  iintro HO
  sl_exec
  iapply (step_signal X Wm κ c _ 2 (by decide) (by decide) (dev2 c)) $$ [HO HB2]
  · isplitr; · iexact HI
    isplitl [HO]; · iexact HO
    iexact HB2
  iintro HO
  sl_exec
  iapply (step_signal X Wm κ c _ 3 (by decide) (by decide) (dev3 c)) $$ [HO HB3]
  · isplitr; · iexact HI
    isplitl [HO]; · iexact HO
    iexact HB3
  iintro HO
  ihave #HM3 := (mayWaits0 c 3) $$ Hlev
  sl_exec
  iapply (step_barrier X Wm κ c) $$ [HO HatB HcB]
  · isplitr; · iexact HI
    isplitr; · iexact Hlev
    isplitl [HO]; · iexact HO
    isplitl [HcB]; · iexact HcB
    iexact HatB
  unfold barPay
  iintro ⟨HO, HatB, ⟨⟨%fr3, Hr3⟩, ⟨%fa3, Ha3⟩, #HrR3, #HrA3⟩, ⟨⟨%fr2, Hr2⟩, ⟨%fa2, Ha2⟩, #HrR2, #HrA2⟩, ⟨⟨%fr1, Hr1⟩, ⟨%fa1, Ha1⟩, #HrR1, #HrA1⟩⟩
  sl_exec
  iapply (step_send X Wm κ c _ 0 (by decide) 0 rfl (dev4 c) _ fr1
    (four_blocks X Wm s4 0 h0 c (rot 1 c) _ _ _ _ _ _ _ _ _ _ _ _ rfl rfl rfl rfl
      (congrArg₂ k0_pay3 (load_x c (X c)) (load_w Wm c (rot 1 c) 0 0 _ _ _ (off1_eq c 0 0)))
      (congrArg₂ k0_pay3 (load_x c (X c)) (load_w Wm c (rot 1 c) 1 1 _ _ _ (off1_eq c 0 1)))
      (congrArg₂ k0_pay3 (load_x c (X c)) (load_w Wm c (rot 1 c) 2 0 _ _ _ (off1_eq c 0 2)))
      (congrArg₂ k0_pay3 (load_x c (X c)) (load_w Wm c (rot 1 c) 3 1 _ _ _ (off1_eq c 0 3))))
    _ _ (congrArg SemLoc.dma (sem_snd 0 _)) (congrArg SemLoc.dma (sem_rcv c _ (off2_eq c) _)) _ _ (off3_eq c) _ _ _ _) $$ [HO Hh0 Hr1 HS1]
  · isplitr; · iexact HI
    isplitl [HO]; · iexact HO
    isplitl [Hh0]; · iexact Hh0
    isplitl [Hr1]; · iexact Hr1
    isplitl [HS1]; · iexact HS1
    iexact HrR1
  iintro ⟨HcS1, HO⟩
  ihave #HM4 := (mayWaits0 c 4) $$ Hlev
  sl_exec
  iapply (step_send X Wm κ c _ 1 (by decide) 1 rfl (dev5 c) _ fr2
    (four_blocks X Wm s4 1 h1 c (rot 2 c) _ _ _ _ _ _ _ _ _ _ _ _ rfl rfl rfl rfl
      (congrArg₂ k0_pay3 (load_x c (X c)) (load_w Wm c (rot 2 c) 0 0 _ _ _ (off1_eq c 1 0)))
      (congrArg₂ k0_pay3 (load_x c (X c)) (load_w Wm c (rot 2 c) 1 1 _ _ _ (off1_eq c 1 1)))
      (congrArg₂ k0_pay3 (load_x c (X c)) (load_w Wm c (rot 2 c) 2 0 _ _ _ (off1_eq c 1 2)))
      (congrArg₂ k0_pay3 (load_x c (X c)) (load_w Wm c (rot 2 c) 3 1 _ _ _ (off1_eq c 1 3))))
    _ _ (congrArg SemLoc.dma (sem_snd 1 _)) (congrArg SemLoc.dma (sem_rcv c _ (off2_eq c) _)) _ _ (off3_eq c) _ _ _ _) $$ [HO Hh1 Hr2 HS2]
  · isplitr; · iexact HI
    isplitl [HO]; · iexact HO
    isplitl [Hh1]; · iexact Hh1
    isplitl [Hr2]; · iexact Hr2
    isplitl [HS2]; · iexact HS2
    iexact HrR2
  iintro ⟨HcS2, HO⟩
  ihave #HM5 := (mayWaits0 c 5) $$ Hlev
  sl_exec
  iapply (step_wait X Wm κ c (sndL 0) (mem_snd 0 (by decide)) ND 0 5 _ (duty_snd X Wm c 0 (by decide)) (exp_snd X Wm c 0 (by decide)) (pay_snd X Wm c 0 (by decide) 0 rfl 0)
    (mayWait0 c _ 5) _ (congrArg SemLoc.dma (sem_snd 0 _)) _ _ rfl) $$ [HO HcS1 HatS1]
  · isplitr; · iexact HI
    isplitr; · iexact Hlev
    isplitl [HO]; · iexact HO
    isplitl [HcS1]; · iexact HcS1
    iexact HatS1
  iintro ⟨HO, HatS1, ⟨%h2, Hh0⟩⟩
  sl_exec
  iapply (step_send X Wm κ c _ 2 (by decide) 0 rfl (dev6 c) _ fr3
    (four_blocks X Wm s4 0 h2 c (rot 3 c) _ _ _ _ _ _ _ _ _ _ _ _ rfl rfl rfl rfl
      (congrArg₂ k0_pay3 (load_x c (X c)) (load_w Wm c (rot 3 c) 0 0 _ _ _ (off1_eq c 2 0)))
      (congrArg₂ k0_pay3 (load_x c (X c)) (load_w Wm c (rot 3 c) 1 1 _ _ _ (off1_eq c 2 1)))
      (congrArg₂ k0_pay3 (load_x c (X c)) (load_w Wm c (rot 3 c) 2 0 _ _ _ (off1_eq c 2 2)))
      (congrArg₂ k0_pay3 (load_x c (X c)) (load_w Wm c (rot 3 c) 3 1 _ _ _ (off1_eq c 2 3))))
    _ _ (congrArg SemLoc.dma (sem_snd 2 _)) (congrArg SemLoc.dma (sem_rcv c _ (off2_eq c) _)) _ _ (off3_eq c) _ _ _ _) $$ [HO Hh0 Hr3 HS3]
  · isplitr; · iexact HI
    isplitl [HO]; · iexact HO
    isplitl [Hh0]; · iexact Hh0
    isplitl [Hr3]; · iexact Hr3
    isplitl [HS3]; · iexact HS3
    iexact HrR3
  iintro ⟨HcS3, HO⟩
  ihave #HM6 := (mayWaits0 c 6) $$ Hlev
  sl_exec
  ihave Hr : iprop(rPts c c (RB X Wm c)) $$ [Hr]
  · iapply (own_slot X Wm c _ (four_blocks X Wm r5 c hr c c _ _ _ _ _ _ _ _ _ _ _ _ (off4_eq c) (off5_eq c) (off6_eq c) (off7_eq c)
      (congrArg₂ k0_pay3 (load_x c (X c)) (load_w Wm c c 0 0 _ _ _ ((off1_eq c 3 0).trans (by rw [show (3 : Fin 4).val + 1 = 4 from rfl, rot_four]))))
      (congrArg₂ k0_pay3 (load_x c (X c)) (load_w Wm c c 1 1 _ _ _ ((off1_eq c 3 1).trans (by rw [show (3 : Fin 4).val + 1 = 4 from rfl, rot_four]))))
      (congrArg₂ k0_pay3 (load_x c (X c)) (load_w Wm c c 2 0 _ _ _ ((off1_eq c 3 2).trans (by rw [show (3 : Fin 4).val + 1 = 4 from rfl, rot_four]))))
      (congrArg₂ k0_pay3 (load_x c (X c)) (load_w Wm c c 3 1 _ _ _ ((off1_eq c 3 3).trans (by rw [show (3 : Fin 4).val + 1 = 4 from rfl, rot_four]))))))
    iexact Hr
  ihave ⟨%ra, %hra, Ha⟩ := (pin _) $$ Ha
  have hrow : ∀ (i : Fin 8) (j : Fin 128), a6.view.read (Elt F) ra (ix3 c i j : S4x8x128.Idx) = amaxOf X Wm c := by
    rw [hra]
    refine row_store X Wm c ha _ _ _ _ _ _ (off8_eq c) ?_
    refine max_step X Wm c 15 3 rfl _ _ ?_ (congrArg₂ k0_pay1 (load_x c (X c)) (load_w Wm c (rot 4 c) 3 1 _ _ _ (off1_eq c 3 3)))
    refine max_step X Wm c 14 2 rfl _ _ ?_ (congrArg₂ k0_pay1 (load_x c (X c)) (load_w Wm c (rot 4 c) 2 0 _ _ _ (off1_eq c 3 2)))
    refine max_step X Wm c 13 1 rfl _ _ ?_ (congrArg₂ k0_pay1 (load_x c (X c)) (load_w Wm c (rot 4 c) 1 1 _ _ _ (off1_eq c 3 1)))
    refine max_step X Wm c 12 0 rfl _ _ ?_ (congrArg₂ k0_pay1 (load_x c (X c)) (load_w Wm c (rot 4 c) 0 0 _ _ _ (off1_eq c 3 0)))
    refine max_step X Wm c 11 3 rfl _ _ ?_ (congrArg₂ k0_pay1 (load_x c (X c)) (load_w Wm c (rot 3 c) 3 1 _ _ _ (off1_eq c 2 3)))
    refine max_step X Wm c 10 2 rfl _ _ ?_ (congrArg₂ k0_pay1 (load_x c (X c)) (load_w Wm c (rot 3 c) 2 0 _ _ _ (off1_eq c 2 2)))
    refine max_step X Wm c 9 1 rfl _ _ ?_ (congrArg₂ k0_pay1 (load_x c (X c)) (load_w Wm c (rot 3 c) 1 1 _ _ _ (off1_eq c 2 1)))
    refine max_step X Wm c 8 0 rfl _ _ ?_ (congrArg₂ k0_pay1 (load_x c (X c)) (load_w Wm c (rot 3 c) 0 0 _ _ _ (off1_eq c 2 0)))
    refine max_step X Wm c 7 3 rfl _ _ ?_ (congrArg₂ k0_pay1 (load_x c (X c)) (load_w Wm c (rot 2 c) 3 1 _ _ _ (off1_eq c 1 3)))
    refine (split_max _ _ _).trans ?_
    refine max_step X Wm c 6 2 rfl _ _ ?_ (congrArg₂ k0_pay1 (load_x c (X c)) (load_w Wm c (rot 2 c) 2 0 _ _ _ (off1_eq c 1 2)))
    refine max_step X Wm c 5 1 rfl _ _ ?_ (congrArg₂ k0_pay1 (load_x c (X c)) (load_w Wm c (rot 2 c) 1 1 _ _ _ (off1_eq c 1 1)))
    refine max_step X Wm c 4 0 rfl _ _ ?_ (congrArg₂ k0_pay1 (load_x c (X c)) (load_w Wm c (rot 2 c) 0 0 _ _ _ (off1_eq c 1 0)))
    refine max_step X Wm c 3 3 rfl _ _ ?_ (congrArg₂ k0_pay1 (load_x c (X c)) (load_w Wm c (rot 1 c) 3 1 _ _ _ (off1_eq c 0 3)))
    refine max_step X Wm c 2 2 rfl _ _ ?_ (congrArg₂ k0_pay1 (load_x c (X c)) (load_w Wm c (rot 1 c) 2 0 _ _ _ (off1_eq c 0 2)))
    refine max_step X Wm c 1 1 rfl _ _ ?_ (congrArg₂ k0_pay1 (load_x c (X c)) (load_w Wm c (rot 1 c) 1 1 _ _ _ (off1_eq c 0 1)))
    refine max_step X Wm c 0 0 rfl _ _ ?_ (congrArg₂ k0_pay1 (load_x c (X c)) (load_w Wm c (rot 1 c) 0 0 _ _ _ (off1_eq c 0 0)))
    rfl
  ihave Ha := (own_row X Wm c ra hrow) $$ Ha
  ihave ⟨⟨Ha, Hq1⟩, Hq2, Hq3⟩ := (aPts_shares c c _).1 $$ Ha
  iapply (step_amax X Wm κ c _ 1 (by decide) (dev7 c) fa1 _ _ (congrArg SemLoc.dma (sem_asn 1 _)) (congrArg SemLoc.dma (sem_arc c _ (off2_eq c) _)) _ _ _ _ (off9_eq c) (off9_eq c) _ _ _ _) $$ [HO Hq1 Ha1 HA1]
  · isplitr; · iexact HI
    isplitl [HO]; · iexact HO
    isplitl [Hq1]; · iexact Hq1
    isplitl [Ha1]; · iexact Ha1
    isplitl [HA1]; · iexact HA1
    iexact HrA1
  iintro ⟨HcA1, HO⟩
  sl_exec
  iapply (step_amax X Wm κ c _ 2 (by decide) (dev8 c) fa2 _ _ (congrArg SemLoc.dma (sem_asn 2 _)) (congrArg SemLoc.dma (sem_arc c _ (off2_eq c) _)) _ _ _ _ (off9_eq c) (off9_eq c) _ _ _ _) $$ [HO Hq2 Ha2 HA2]
  · isplitr; · iexact HI
    isplitl [HO]; · iexact HO
    isplitl [Hq2]; · iexact Hq2
    isplitl [Ha2]; · iexact Ha2
    isplitl [HA2]; · iexact HA2
    iexact HrA2
  iintro ⟨HcA2, HO⟩
  sl_exec
  iapply (step_amax X Wm κ c _ 3 (by decide) (dev9 c) fa3 _ _ (congrArg SemLoc.dma (sem_asn 3 _)) (congrArg SemLoc.dma (sem_arc c _ (off2_eq c) _)) _ _ _ _ (off9_eq c) (off9_eq c) _ _ _ _) $$ [HO Hq3 Ha3 HA3]
  · isplitr; · iexact HI
    isplitl [HO]; · iexact HO
    isplitl [Hq3]; · iexact Hq3
    isplitl [Ha3]; · iexact Ha3
    isplitl [HA3]; · iexact HA3
    iexact HrA3
  iintro ⟨HcA3, HO⟩
  sl_exec
  ihave #HM9 := (mayWaits0 c 9) $$ Hlev
  iapply (step_wait X Wm κ c (arcL (rot 1 c)) (mem_arc _) NA 2 9 _ (duty_arc X Wm c _ (rot_ne c 1 (by decide) (by decide))) (exp_arc X Wm c _ (rot_ne c 1 (by decide) (by decide))) (pay_arc X Wm c _ 0)
    (mayWait2 c _) _ (congrArg SemLoc.dma (sem_arc (rot 1 c) _ (off10_eq c 0) _)) _ _ rfl) $$ [HO HcC1 HatC1]
  · isplitr; · iexact HI
    isplitr; · iexact Hlev
    isplitl [HO]; · iexact HO
    isplitl [HcC1]; · iexact HcC1
    iexact HatC1
  iintro ⟨HO, HatC1, Ha1⟩
  ihave ⟨Ha1, Hx1⟩ := (setAside X Wm c (rot 1 c)).1 $$ Ha1
  sl_exec
  iapply (step_wait X Wm κ c (arcL (rot 2 c)) (mem_arc _) NA 2 9 _ (duty_arc X Wm c _ (rot_ne c 2 (by decide) (by decide))) (exp_arc X Wm c _ (rot_ne c 2 (by decide) (by decide))) (pay_arc X Wm c _ 0)
    (mayWait2 c _) _ (congrArg SemLoc.dma (sem_arc (rot 2 c) _ (off10_eq c 1) _)) _ _ rfl) $$ [HO HcC2 HatC2]
  · isplitr; · iexact HI
    isplitr; · iexact Hlev
    isplitl [HO]; · iexact HO
    isplitl [HcC2]; · iexact HcC2
    iexact HatC2
  iintro ⟨HO, HatC2, Ha2⟩
  ihave ⟨Ha2, Hx2⟩ := (setAside X Wm c (rot 2 c)).1 $$ Ha2
  sl_exec
  iapply (step_wait X Wm κ c (arcL (rot 3 c)) (mem_arc _) NA 2 9 _ (duty_arc X Wm c _ (rot_ne c 3 (by decide) (by decide))) (exp_arc X Wm c _ (rot_ne c 3 (by decide) (by decide))) (pay_arc X Wm c _ 0)
    (mayWait2 c _) _ (congrArg SemLoc.dma (sem_arc (rot 3 c) _ (off10_eq c 2) _)) _ _ rfl) $$ [HO HcC3 HatC3]
  · isplitr; · iexact HI
    isplitr; · iexact Hlev
    isplitl [HO]; · iexact HO
    isplitl [HcC3]; · iexact HcC3
    iexact HatC3
  iintro ⟨HO, HatC3, Ha3⟩
  ihave ⟨Ha3, Hx3⟩ := (setAside X Wm c (rot 3 c)).1 $$ Ha3
  ihave Ha := (Entails.of_eq (rows c q0 _).symm) $$ [Ha Ha1 Ha2 Ha3]
  · isplitl [Ha]; · iexact Ha
    isplitl [Ha1]; · iexact Ha1
    isplitl [Ha2]; · iexact Ha2
    iexact Ha3
  sl_exec
  iapply (step_wait X Wm κ c (rcvL (rot 3 c)) (mem_rcv _) ND 2 9 _ (duty_rcv X Wm c _ (rot_ne c 3 (by decide) (by decide))) (exp_rcv X Wm c _ (rot_ne c 3 (by decide) (by decide))) (pay_rcv X Wm c _ 0)
    (mayWait2 c _) _ (congrArg SemLoc.dma (sem_rcv (rot 3 c) _ (off10_eq c 2) _)) _ _ rfl) $$ [HO HcR3 HatR3]
  · isplitr; · iexact HI
    isplitr; · iexact Hlev
    isplitl [HO]; · iexact HO
    isplitl [HcR3]; · iexact HcR3
    iexact HatR3
  iintro ⟨HO, HatR3, Hr3⟩
  ihave Hr3 := (Entails.of_eq (slot_load c (rot 3 c) 2 rfl 3#32 rfl (k0_off15_inb c 2) _)) $$ Hr3
  sl_exec
  iapply (step_wait X Wm κ c (rcvL (rot 2 c)) (mem_rcv _) ND 2 9 _ (duty_rcv X Wm c _ (rot_ne c 2 (by decide) (by decide))) (exp_rcv X Wm c _ (rot_ne c 2 (by decide) (by decide))) (pay_rcv X Wm c _ 0)
    (mayWait2 c _) _ (congrArg SemLoc.dma (sem_rcv (rot 2 c) _ (off10_eq c 1) _)) _ _ rfl) $$ [HO HcR2 HatR2]
  · isplitr; · iexact HI
    isplitr; · iexact Hlev
    isplitl [HO]; · iexact HO
    isplitl [HcR2]; · iexact HcR2
    iexact HatR2
  iintro ⟨HO, HatR2, Hr2⟩
  ihave Hr2 := (Entails.of_eq (slot_load c (rot 2 c) 1 rfl 2#32 rfl (k0_off15_inb c 1) _)) $$ Hr2
  sl_exec
  iapply (step_wait X Wm κ c (rcvL (rot 1 c)) (mem_rcv _) ND 2 9 _ (duty_rcv X Wm c _ (rot_ne c 1 (by decide) (by decide))) (exp_rcv X Wm c _ (rot_ne c 1 (by decide) (by decide))) (pay_rcv X Wm c _ 0)
    (mayWait2 c _) _ (congrArg SemLoc.dma (sem_rcv (rot 1 c) _ (off10_eq c 0) _)) _ _ rfl) $$ [HO HcR1 HatR1]
  · isplitr; · iexact HI
    isplitr; · iexact Hlev
    isplitl [HO]; · iexact HO
    isplitl [HcR1]; · iexact HcR1
    iexact HatR1
  iintro ⟨HO, HatR1, Hr1⟩
  ihave Hr1 := (Entails.of_eq (slot_load c (rot 1 c) 0 rfl 1#32 rfl (k0_off15_inb c 0) _)) $$ Hr1
  sl_exec
  iapply (step_wait X Wm κ c (sndL 1) (mem_snd 1 (by decide)) ND 0 9 _ (duty_snd X Wm c 1 (by decide)) (exp_snd X Wm c 1 (by decide)) (pay_snd X Wm c 1 (by decide) 1 rfl 0)
    (mayWait0 c _ 9) _ (congrArg SemLoc.dma (sem_snd 1 _)) _ _ rfl) $$ [HO HcS2 HatS2]
  · isplitr; · iexact HI
    isplitr; · iexact Hlev
    isplitl [HO]; · iexact HO
    isplitl [HcS2]; · iexact HcS2
    iexact HatS2
  iintro ⟨HO, HatS2, ⟨%k1, Hh1⟩⟩
  sl_exec
  iapply (step_wait X Wm κ c (sndL 2) (mem_snd 2 (by decide)) ND 0 9 _ (duty_snd X Wm c 2 (by decide)) (exp_snd X Wm c 2 (by decide)) (pay_snd X Wm c 2 (by decide) 0 rfl 0)
    (mayWait0 c _ 9) _ (congrArg SemLoc.dma (sem_snd 2 _)) _ _ rfl) $$ [HO HcS3 HatS3]
  · isplitr; · iexact HI
    isplitr; · iexact Hlev
    isplitl [HO]; · iexact HO
    isplitl [HcS3]; · iexact HcS3
    iexact HatS3
  iintro ⟨HO, HatS3, ⟨%k0, Hh0⟩⟩
  sl_exec
  iapply (step_wait X Wm κ c (asnL 1) (mem_asn 1 (by decide)) NA 0 9 _ (duty_asn X Wm c 1 (by decide)) (exp_asn X Wm c 1 (by decide)) (pay_asn X Wm c 1 (by decide) 0)
    (mayWait0 c _ 9) _ (congrArg SemLoc.dma (sem_asn 1 _)) _ _ rfl) $$ [HO HcA1 HatA1]
  · isplitr; · iexact HI
    isplitr; · iexact Hlev
    isplitl [HO]; · iexact HO
    isplitl [HcA1]; · iexact HcA1
    iexact HatA1
  iintro ⟨HO, HatA1, Hq1⟩
  sl_exec
  iapply (step_wait X Wm κ c (asnL 2) (mem_asn 2 (by decide)) NA 0 9 _ (duty_asn X Wm c 2 (by decide)) (exp_asn X Wm c 2 (by decide)) (pay_asn X Wm c 2 (by decide) 0)
    (mayWait0 c _ 9) _ (congrArg SemLoc.dma (sem_asn 2 _)) _ _ rfl) $$ [HO HcA2 HatA2]
  · isplitr; · iexact HI
    isplitr; · iexact Hlev
    isplitl [HO]; · iexact HO
    isplitl [HcA2]; · iexact HcA2
    iexact HatA2
  iintro ⟨HO, HatA2, Hq2⟩
  sl_exec
  iapply (step_wait X Wm κ c (asnL 3) (mem_asn 3 (by decide)) NA 0 9 _ (duty_asn X Wm c 3 (by decide)) (exp_asn X Wm c 3 (by decide)) (pay_asn X Wm c 3 (by decide) 0)
    (mayWait0 c _ 9) _ (congrArg SemLoc.dma (sem_asn 3 _)) _ _ rfl) $$ [HO HcA3 HatA3]
  · isplitr; · iexact HI
    isplitr; · iexact Hlev
    isplitl [HO]; · iexact HO
    isplitl [HcA3]; · iexact HcA3
    iexact HatA3
  iintro ⟨HO, HatA3, Hq3⟩
  sl_exec
  ihave ⟨%go, %hgo, Ho⟩ := (pin _) $$ Ho
  have hout : ∀ I : S4096x2048.Idx, go I = OutB X Wm c I := by
    intro I
    rw [hgo]
    exact (out_step X Wm c (rot 1 c) (fun b => ((False ∨ b = c) ∨ b = rot 3 c) ∨ b = rot 2 c) _ _ _ (off16_eq c 0) _
      (stage X Wm c (rot 1 c) _ _ _ _ _ _ _ (congrArg k0_pay56 (load_a X Wm c)) (congrArg k0_pay57 (load_a X Wm c)) (load_slot X Wm c (rot 1 c) _ _ (off15_eq c 0)) rfl)
      (out_step X Wm c (rot 2 c) (fun b => (False ∨ b = c) ∨ b = rot 3 c) _ _ _ (off16_eq c 1) _
      (stage X Wm c (rot 2 c) _ _ _ _ _ _ _ (congrArg k0_pay56 (load_a X Wm c)) (congrArg k0_pay57 (load_a X Wm c)) (load_slot X Wm c (rot 2 c) _ _ (off15_eq c 1)) rfl)
      (out_step X Wm c (rot 3 c) (fun b => False ∨ b = c) _ _ _ (off16_eq c 2) _
      (stage X Wm c (rot 3 c) _ _ _ _ _ _ _ (congrArg k0_pay56 (load_a X Wm c)) (congrArg k0_pay57 (load_a X Wm c)) (load_slot X Wm c (rot 3 c) _ _ (off15_eq c 2)) rfl)
      (out_step X Wm c c (fun _ => False) _ _ _ (off13_eq c) _
      (stage X Wm c c _ _ _ _ _ _ _ (congrArg k0_pay56 (load_a X Wm c)) (congrArg k0_pay57 (load_a X Wm c)) (load_slot X Wm c c _ _ (off12_eq c)) rfl)
      (fun _ h => h.elim))))) I (blk_all c (blk I))
  ihave Ho := (Entails.of_eq (pointsTo_congr (U := UU) fun i _ => hout i)) $$ Ho
  sl_step
  unfold bodyPost talkPost
  isplitl [Hx]; · iexact Hx
  isplitl [Hw]; · iexact Hw
  isplitl [Hg0 Hg1 Hh0 Hh1 Hr Hr1 Hr2 Hr3 Ha Hq1 Hq2 Hq3 Hx1 Hx2 Hx3 Ht]
  · isplitl [Hg0 Hg1]
    · iapply (weights_join c _ _)
      isplitl [Hg0]; · iexact Hg0
      iexact Hg1
    isplitl [Hh0 Hh1]
    · iapply (sends_join c k0 k1)
      isplitl [Hh0]; · iexact Hh0
      iexact Hh1
    isplitl [Hr Hr1 Hr2 Hr3]
    · iexists (RB X Wm c)
      rw [slots c, slot_load c (rot 1 c) 0 rfl 1#32 rfl (k0_off15_inb c 0), slot_load c (rot 2 c) 1 rfl 2#32 rfl (k0_off15_inb c 1), slot_load c (rot 3 c) 2 rfl 3#32 rfl (k0_off15_inb c 2)]
      isplitl [Hr]; · iexact Hr
      isplitl [Hr1]; · iexact Hr1
      isplitl [Hr2]; · iexact Hr2
      iexact Hr3
    isplitl [Ha Hq1 Hq2 Hq3 Hx1 Hx2 Hx3]
    · iexists (AB X Wm c)
      iapply (amax_back X Wm c)
      isplitl [Ha]; · iexact Ha
      isplitl [Hq1 Hq2 Hq3]
      · isplitl [Hq1]; · iexact Hq1
        isplitl [Hq2]; · iexact Hq2
        iexact Hq3
      isplitl [Hx1]; · iexact Hx1
      isplitl [Hx2]; · iexact Hx2
      iexact Hx3
    iexists _; iexact Ht
  isplitl [Ho]; · iexact Ho
  isplitl [Hs0 Hs1 Hso]
  · isplitl [Hs0]; · iexact Hs0
    isplitl [Hs1]; · iexact Hs1
    iexact Hso
  isplitl [HO]; · iexists _; iexact HO
  isplitl [HatB]; · iexact HatB
  isplitl [HatS1 HatS2 HatS3]
  · isplitl [HatS1]; · iexact HatS1
    isplitl [HatS2]; · iexact HatS2
    iexact HatS3
  isplitl [HatA1 HatA2 HatA3]
  · isplitl [HatA1]; · iexact HatA1
    isplitl [HatA2]; · iexact HatA2
    iexact HatA3
  isplitl [HatR1 HatR2 HatR3]
  · isplitl [HatR1]; · iexact HatR1
    isplitl [HatR2]; · iexact HatR2
    iexact HatR3
  isplitl [HatC1]; · iexact HatC1
  isplitl [HatC2]; · iexact HatC2
  iexact HatC3

end Body

end Cert.KernelIdeal.Pf

end
-- ==== Proof.Open.lean ====
/-
  Entering and leaving the kernel: the scoped semaphores of device c put under their cells' invariants before the body, and
  read back at zero after it.
-/
module

public import proofs.«01_k».proof.Proof.Body
public import Idealize.ShloMosaic.Lib.Pipeline.RegionTalk

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem
open Idealize.ShloMosaic.Rounds
open Idealize.ShloMosaic.TalkSites (Fam Pay tallyL addL credOf)

variable {F : FTy → Type} [FloatOps F]

local notation "𝕄" => MT nD τ sig ℕ (Elt F) ℕ UU ℕ

/-! ## The kernel's own semaphores -/

/-- The scoped semaphores no window uses: three for the local copies, four each to send, receive, send maxima, receive maxima. -/
abbrev OwnK : Type := Fin 3 ⊕ (Fin 4 ⊕ (Fin 4 ⊕ (Fin 4 ⊕ Fin 4)))
def locL : Fin 3 → SemLoc sig | 0 => w0L | 1 => w1L | 2 => outL
def osem : OwnK → SemLoc sig
  | .inl k => locL k
  | .inr (.inl g) => sndL g
  | .inr (.inr (.inl s)) => rcvL s
  | .inr (.inr (.inr (.inl k))) => asnL k
  | .inr (.inr (.inr (.inr s))) => arcL s

theorem osem_facts : Pipeline.OwnSemFacts spec0 osem := by decide

abbrev sv (c : Dev nD) (sm : SemLoc sig) : sProp 𝕄 := semVal (cell c sm) 0

theorem three (P : Fin 3 → sProp 𝕄) : bigSep Finset.univ P = iprop(P 0 ∗ P 1 ∗ P 2) :=
  bigSep_univ_eq_bigSepL [(0 : Fin 3), 1, 2] (by decide) (by decide) P
theorem quad (P : Fin 4 → sProp 𝕄) : bigSep Finset.univ P = iprop(P 0 ∗ P 1 ∗ P 2 ∗ P 3) :=
  bigSep_univ_eq_bigSepL [(0 : Fin 4), 1, 2, 3] (by decide) (by decide) P

/-- The kernel's own counters at zero, sorted by what device c does with them. -/
theorem ownSems_eq (c : Dev nD) : (Pipeline.ownSems0 osem c : sProp 𝕄)
    = iprop((sv c w0L ∗ sv c w1L ∗ sv c outL) ∗ (sv c (sndL 0) ∗ sv c (sndL 1) ∗ sv c (sndL 2) ∗ sv c (sndL 3))
      ∗ (sv c (rcvL c) ∗ sv c (rcvL (rot 1 c)) ∗ sv c (rcvL (rot 2 c)) ∗ sv c (rcvL (rot 3 c)))
      ∗ (sv c (asnL 0) ∗ sv c (asnL 1) ∗ sv c (asnL 2) ∗ sv c (asnL 3))
      ∗ (sv c (arcL c) ∗ sv c (arcL (rot 1 c)) ∗ sv c (arcL (rot 2 c)) ∗ sv c (arcL (rot 3 c)))) := by
  unfold Pipeline.ownSems0
  rw [bigSep_univ_sum, bigSep_univ_sum, bigSep_univ_sum, bigSep_univ_sum,
    three (fun k : Fin 3 => (semVal ((c : Thread nD τ), osem (.inl k)) 0 : sProp 𝕄)),
    quad (fun g : Fin 4 => (semVal ((c : Thread nD τ), osem (.inr (.inl g))) 0 : sProp 𝕄)),
    four c (fun s : Dev nD => (semVal ((c : Thread nD τ), osem (.inr (.inr (.inl s)))) 0 : sProp 𝕄)),
    quad (fun g : Fin 4 => (semVal ((c : Thread nD τ), osem (.inr (.inr (.inr (.inl g))))) 0 : sProp 𝕄)),
    four c (fun s : Dev nD => (semVal ((c : Thread nD τ), osem (.inr (.inr (.inr (.inr s))))) 0 : sProp 𝕄))]
  rfl

/-- The right to open each of device c's cells. -/
theorem dorm_eq (Φ : SemLoc sig → sProp 𝕄) (c : Dev nD) : bigSep dormS Φ
    = iprop((Φ (sndL 0) ∗ Φ (sndL 1) ∗ Φ (sndL 2)) ∗ (Φ (rcvL c) ∗ Φ (rcvL (rot 1 c)) ∗ Φ (rcvL (rot 2 c)) ∗ Φ (rcvL (rot 3 c)))
      ∗ (Φ (asnL 1) ∗ Φ (asnL 2) ∗ Φ (asnL 3)) ∗ (Φ (arcL c) ∗ Φ (arcL (rot 1 c)) ∗ Φ (arcL (rot 2 c)) ∗ Φ (arcL (rot 3 c)))) := by
  rw [← four c (fun s : Dev nD => Φ (rcvL s)), ← four c (fun s : Dev nD => Φ (arcL s)),
    quad (fun s => Φ (rcvL s)), quad (fun s => Φ (arcL s)),
    bigSep_eq_bigSepL_of_eq [sndL 0, sndL 1, sndL 2, rcvL 0, rcvL 1, rcvL 2, rcvL 3, asnL 1, asnL 2, asnL 3, arcL 0, arcL 1, arcL 2, arcL 3]
      (by decide +kernel) (by decide +kernel)]
  rw [show bigSepL [sndL 0, sndL 1, sndL 2, rcvL 0, rcvL 1, rcvL 2, rcvL 3, asnL 1, asnL 2, asnL 3, arcL 0, arcL 1, arcL 2, arcL 3] Φ
    = iprop(Φ (sndL 0) ∗ Φ (sndL 1) ∗ Φ (sndL 2) ∗ Φ (rcvL 0) ∗ Φ (rcvL 1) ∗ Φ (rcvL 2) ∗ Φ (rcvL 3) ∗ Φ (asnL 1) ∗ Φ (asnL 2) ∗ Φ (asnL 3)
      ∗ Φ (arcL 0) ∗ Φ (arcL 1) ∗ Φ (arcL 2) ∗ Φ (arcL 3)) from rfl]
  have h1 : iprop(Φ (sndL 0) ∗ Φ (sndL 1) ∗ Φ (sndL 2) ∗ Φ (rcvL 0) ∗ Φ (rcvL 1) ∗ Φ (rcvL 2) ∗ Φ (rcvL 3) ∗ Φ (asnL 1) ∗ Φ (asnL 2) ∗ Φ (asnL 3)
      ∗ Φ (arcL 0) ∗ Φ (arcL 1) ∗ Φ (arcL 2) ∗ Φ (arcL 3)) ⊢ (iprop((Φ (sndL 0) ∗ Φ (sndL 1) ∗ Φ (sndL 2)) ∗ (Φ (rcvL 0) ∗ Φ (rcvL 1) ∗ Φ (rcvL 2) ∗ Φ (rcvL 3))
      ∗ (Φ (asnL 1) ∗ Φ (asnL 2) ∗ Φ (asnL 3)) ∗ (Φ (arcL 0) ∗ Φ (arcL 1) ∗ Φ (arcL 2) ∗ Φ (arcL 3))) : sProp 𝕄) := by
    iintro ⟨H0, H1, H2, H3, H4, H5, H6, H7, H8, H9, HA, HB, HC, HD⟩
    isplitl [H0 H1 H2]; · isplitl [H0]; · iexact H0
                          isplitl [H1] <;> iassumption
    isplitl [H3 H4 H5 H6]; · isplitl [H3]; · iexact H3
                             isplitl [H4]; · iexact H4
                             isplitl [H5] <;> iassumption
    isplitl [H7 H8 H9]; · isplitl [H7]; · iexact H7
                          isplitl [H8] <;> iassumption
    isplitl [HA]; · iexact HA
    isplitl [HB]; · iexact HB
    isplitl [HC] <;> iassumption
  have h2 : iprop((Φ (sndL 0) ∗ Φ (sndL 1) ∗ Φ (sndL 2)) ∗ (Φ (rcvL 0) ∗ Φ (rcvL 1) ∗ Φ (rcvL 2) ∗ Φ (rcvL 3))
      ∗ (Φ (asnL 1) ∗ Φ (asnL 2) ∗ Φ (asnL 3)) ∗ (Φ (arcL 0) ∗ Φ (arcL 1) ∗ Φ (arcL 2) ∗ Φ (arcL 3))) ⊢ (iprop(Φ (sndL 0) ∗ Φ (sndL 1) ∗ Φ (sndL 2) ∗ Φ (rcvL 0) ∗ Φ (rcvL 1) ∗ Φ (rcvL 2) ∗ Φ (rcvL 3) ∗ Φ (asnL 1) ∗ Φ (asnL 2) ∗ Φ (asnL 3)
      ∗ Φ (arcL 0) ∗ Φ (arcL 1) ∗ Φ (arcL 2) ∗ Φ (arcL 3)) : sProp 𝕄) := by
    iintro ⟨⟨H0, H1, H2⟩, ⟨H3, H4, H5, H6⟩, ⟨H7, H8, H9⟩, HA, HB, HC, HD⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HB]; · iexact HB
    isplitl [HC]; · iexact HC
    iexact HD
  exact BI.equiv_iff.mp ⟨h1, h2⟩

/-- The payments device c makes, listed. -/
def toksL (c : Dev nD) : List (GSem nD τ sig × ℕ × ℕ) :=
    [(cell (rot 1 c) barL, 0, 1), (cell (rot 2 c) barL, 0, 2), (cell (rot 3 c) barL, 0, 3),
     (cell c (sndL 0), 0, 0), (cell c (sndL 1), 0, 0), (cell c (sndL 2), 0, 0),
     (cell (rot 1 c) (rcvL c), 0, 0), (cell (rot 2 c) (rcvL c), 0, 0), (cell (rot 3 c) (rcvL c), 0, 0),
     (cell c (asnL 1), 0, 0), (cell c (asnL 2), 0, 0), (cell c (asnL 3), 0, 0),
     (cell (rot 1 c) (arcL c), 0, 0), (cell (rot 2 c) (arcL c), 0, 0), (cell (rot 3 c) (arcL c), 0, 0)]

/-- The tokens of the payments device c makes. -/
theorem toks_eq (c : Dev nD) : bigSep (toksOf c) (fun x => (dutyTok ER x.1 x.2.1 x.2.2 : sProp 𝕄))
    = iprop(dutyTok ER (cell (rot 1 c) barL) 0 1 ∗ dutyTok ER (cell (rot 2 c) barL) 0 2 ∗ dutyTok ER (cell (rot 3 c) barL) 0 3
      ∗ dutyTok ER (cell c (sndL 0)) 0 0 ∗ dutyTok ER (cell c (sndL 1)) 0 0 ∗ dutyTok ER (cell c (sndL 2)) 0 0
      ∗ dutyTok ER (cell (rot 1 c) (rcvL c)) 0 0 ∗ dutyTok ER (cell (rot 2 c) (rcvL c)) 0 0 ∗ dutyTok ER (cell (rot 3 c) (rcvL c)) 0 0
      ∗ dutyTok ER (cell c (asnL 1)) 0 0 ∗ dutyTok ER (cell c (asnL 2)) 0 0 ∗ dutyTok ER (cell c (asnL 3)) 0 0
      ∗ dutyTok ER (cell (rot 1 c) (arcL c)) 0 0 ∗ dutyTok ER (cell (rot 2 c) (arcL c)) 0 0 ∗ dutyTok ER (cell (rot 3 c) (arcL c)) 0 0) :=
  (bigSep_eq_bigSepL_of_eq (S := toksOf c) (toksL c) (by revert c; decide +kernel) (by revert c; decide +kernel)
    (fun x => (dutyTok ER x.1 x.2.1 x.2.2 : sProp 𝕄))).trans rfl

section Ghost

variable (X : Dev nD → Vec F S1024x4096 .bf16) (Wm : Dev nD → S4096x8192.Idx → Elt F .f32) (κ : GSem nD τ sig → ℕ)

/-- What device c spends to signal the device k places ahead, its landing places apart. -/
def preSig (c : Dev nD) (k : ℕ) : sProp 𝕄 :=
  iprop(dutyTok ER (cell (rot k c) barL) 0 k ∗ reached ER (cell (rot k c) barL) 0
    ∗ reached ER (cell c (rcvL (rot k c))) 0 ∗ reached ER (cell c (arcL (rot k c))) 0)

/-- With the landing places it is the whole signal. -/
theorem sig_intro (c : Dev nD) (k : ℕ) (hk : k ≤ 4) (f : Buf (Elt F) (r5.view.loc (c : Thread nD τ))) (g : Buf (Elt F) (a6.view.loc (c : Thread nD τ))) :
    iprop(preSig c k ∗ rPts c (rot k c) f ∗ aPts c (rot k c) fullShare g) ⊢ (sigB c k : sProp 𝕄) := by
  have e : rot (4 - k) (rot k c) = c := by rw [rot_rot, show k + (4 - k) = 4 by omega, rot_four]
  unfold preSig sigB barPay
  rw [e]
  iintro ⟨⟨Ht, Hb, Hr, Ha⟩, Hf, Hg⟩
  isplitl [Ht]; · iexact Ht
  isplitl [Hb]; · iexact Hb
  isplitl [Hf]; · iexists f; iexact Hf
  isplitl [Hg]; · iexists g; iexact Hg
  isplitl [Hr] <;> iassumption

/-- The protocol's state of device c before its body, the signals apart. -/
def talkRest (c : Dev nD) : sProp 𝕄 :=
  iprop((sndB c 0 ∗ sndB c 1 ∗ sndB c 2) ∗ (asnB c 1 ∗ asnB c 2 ∗ asnB c 3)
    ∗ (atPos ER (cell c barL) 0 ∅ 0 ∗ cred (tallyAt (cell c barL) 1 3))
    ∗ (atPos ER (cell c (sndL 0)) 0 ∅ 0 ∗ atPos ER (cell c (sndL 1)) 0 ∅ 0 ∗ atPos ER (cell c (sndL 2)) 0 ∅ 0)
    ∗ (atPos ER (cell c (asnL 1)) 0 ∅ 0 ∗ atPos ER (cell c (asnL 2)) 0 ∅ 0 ∗ atPos ER (cell c (asnL 3)) 0 ∅ 0)
    ∗ (atPos ER (cell c (rcvL (rot 1 c))) 0 ∅ 0 ∗ atPos ER (cell c (rcvL (rot 2 c))) 0 ∅ 0 ∗ atPos ER (cell c (rcvL (rot 3 c))) 0 ∅ 0)
    ∗ (atPos ER (cell c (arcL (rot 1 c))) 0 ∅ 0 ∗ atPos ER (cell c (arcL (rot 2 c))) 0 ∅ 0 ∗ atPos ER (cell c (arcL (rot 3 c))) 0 ∅ 0)
    ∗ (cred (tallyAt (cell c (rcvL (rot 1 c))) 2 ND) ∗ cred (tallyAt (cell c (rcvL (rot 2 c))) 2 ND) ∗ cred (tallyAt (cell c (rcvL (rot 3 c))) 2 ND))
    ∗ (cred (tallyAt (cell c (arcL (rot 1 c))) 2 NA) ∗ cred (tallyAt (cell c (arcL (rot 2 c))) 2 NA) ∗ cred (tallyAt (cell c (arcL (rot 3 c))) 2 NA)))

theorem talkPre_split (c : Dev nD) : (talkPre c : sProp 𝕄) = iprop((sigB c 1 ∗ sigB c 2 ∗ sigB c 3) ∗ talkRest c) := rfl

/-- The four counters of the kernel that the body leaves alone, and the three its local copies count on. -/
def spare (c : Dev nD) : sProp 𝕄 := iprop(sv c (sndL 3) ∗ sv c (rcvL c) ∗ sv c (asnL 0) ∗ sv c (arcL c))
def locals (c : Dev nD) : sProp 𝕄 := iprop(sv c w0L ∗ sv c w1L ∗ sv c outL)

/-- What the program's launch leaves device c for the kernel. -/
def Tk (c : Dev nD) : sProp 𝕄 :=
  iprop(Fm.launched ER (Rd X Wm) (fun _ => Finset.univ) c ∗ Pipeline.launchCred (fun d => tallyL (dueL d)) c)

/-- The same once device c's cells are open. -/
def Xk (c : Dev nD) : sProp 𝕄 :=
  iprop((∃ κ, Invs X Wm κ) ∗ levAts L lv ∗ spare c ∗ locals c ∗ (preSig c 1 ∗ preSig c 2 ∗ preSig c 3) ∗ talkRest c)

/-- What is left to device c after the kernel: its barrier cell past its round. -/
def Yk (c : Dev nD) : sProp 𝕄 := Fm.barPos ER (Rd X Wm) c (0 + 1) ∅

/-- Opening one cell. -/
theorem open_one (c : Dev nD) (sm : SemLoc sig) (h : sm ∈ dormS) :
    iprop(Invs X Wm κ ∗ openTok ER (cell c sm) ∗ sv c sm) ⊢ (iprop(|={Set.univ}=> (atPos ER (cell c sm) 0 ∅ 0 ∗ reached ER (cell c sm) 0)) : sProp 𝕄) := by
  iintro ⟨#HI, Ho, Hs⟩
  iapply (Rounds.cell_open ER (Rd X Wm) (g := cell c sm) (Set.mem_univ (κ (cell c sm))))
  isplitr; · iapply (inv_dma X Wm κ c h); iexact HI
  isplitl [Ho] <;> iassumption

/-- Closing one cell past its round. -/
theorem close_one (c : Dev nD) (sm : SemLoc sig) (h : sm ∈ dormS) :
    iprop(Invs X Wm κ ∗ atPos ER (cell c sm) (0 + 1) ∅ 0) ⊢ (iprop(|={Set.univ}=> sv c sm) : sProp 𝕄) := by
  iintro ⟨#HI, Ha⟩
  iapply (Rounds.cell_close ER (Rd X Wm) (g := cell c sm) (Set.mem_univ (κ (cell c sm))) id (duties_later X Wm (cell c sm)))
  isplitr; · iapply (inv_dma X Wm κ c h); iexact HI
  iexact Ha

theorem tallyL_perm {l l' : List (Pay nD τ sig)} (h : l.Perm l') : tallyL l = tallyL l' := by
  induction h with
  | nil => rfl
  | cons x _ ih => rw [tallyL, tallyL, ih]
  | swap x y l => simp only [tallyL]; exact add_left_comm _ _ _
  | trans _ _ h1 h2 => exact h1.trans h2

/-- The launch's credit, token by token. -/
theorem creds (c : Dev nD) : (Pipeline.launchCred (fun d => tallyL (dueL d)) c : sProp 𝕄)
    ⊢ iprop(cred (tallyAt (cell c barL) 1 3)
      ∗ (cred (tallyAt (cell c (rcvL (rot 1 c))) 2 ND) ∗ cred (tallyAt (cell c (rcvL (rot 2 c))) 2 ND) ∗ cred (tallyAt (cell c (rcvL (rot 3 c))) 2 ND))
      ∗ (cred (tallyAt (cell c (arcL (rot 1 c))) 2 NA) ∗ cred (tallyAt (cell c (arcL (rot 2 c))) 2 NA) ∗ cred (tallyAt (cell c (arcL (rot 3 c))) 2 NA))) := by
  have e3 : (cred (tallyAt (cell c barL) 1 3) : sProp 𝕄) = cred (tallyAt (cell c barL) 1 1 + (tallyAt (cell c barL) 1 1 + tallyAt (cell c barL) 1 1)) := by
    rw [tallyAt_add, tallyAt_add]
  rw [TalkSites.launchCred_tallyL dueL (fun d x hx => (dueL_tc d x hx).1) c, tallyL_perm (credOf_perm c), TalkSites.cred_tallyL, e3]
  show iprop(cred (tallyAt (cell c barL) 1 1) ∗ cred (tallyAt (cell c barL) 1 1) ∗ cred (tallyAt (cell c barL) 1 1)
    ∗ cred (tallyAt (cell c (rcvL (rot 1 c))) 2 ND) ∗ cred (tallyAt (cell c (rcvL (rot 2 c))) 2 ND) ∗ cred (tallyAt (cell c (rcvL (rot 3 c))) 2 ND)
    ∗ cred (tallyAt (cell c (arcL (rot 1 c))) 2 NA) ∗ cred (tallyAt (cell c (arcL (rot 2 c))) 2 NA) ∗ cred (tallyAt (cell c (arcL (rot 3 c))) 2 NA)) ⊢ _
  iintro ⟨H0, H1, H2, H3, H4, H5, H6, H7, H8⟩
  isplitl [H0 H1 H2]
  · iapply (cred_add _ _).2
    isplitl [H0]; · iexact H0
    iapply (cred_add _ _).2
    isplitl [H1] <;> iassumption
  isplitl [H3 H4 H5]
  · isplitl [H3]; · iexact H3
    isplitl [H4] <;> iassumption
  isplitl [H6]; · iexact H6
  isplitl [H7] <;> iassumption

/-- Entering: device c's cells opened, its tokens sorted by the step that spends them. -/
theorem open_all (c : Dev nD) : iprop(Tk X Wm c ∗ Pipeline.ownSems0 osem c ∗ levAts L lv) ⊢ (iprop(|={Set.univ}=> Xk X Wm c) : sProp 𝕄) := by
  have hj : (bigSep Finset.univ (Fm.rides ER (Rd X Wm) c) : sProp 𝕄) = Fm.rides ER (Rd X Wm) c 0 := bigSep_univ_eq_bigSepL [(0 : Fin 1)] (by decide) (by decide) _
  have hd : (bigSep (Fm.dorm 0) (fun sm => openTok ER ((c.tc : Thread nD τ), sm)) : sProp 𝕄) = _ := dorm_eq (fun sm => openTok ER (cell c sm)) c
  have ht : (bigSep (Fm.toks c 0) (fun x => dutyTok ER x.1 x.2.1 x.2.2) : sProp 𝕄) = _ := toks_eq c
  have hrb (d : Dev nD) : (bigSep Finset.univ fun n : Dev nD => reached ER ((n.tc : Thread nD τ), Fm.bar) 0 : sProp 𝕄) ⊢ reached ER (cell d barL) 0 :=
    bigSep_elim (Finset.mem_univ d)
  unfold Tk Xk talkRest preSig sndB asnB spare locals TalkSites.Fam.launched
  rw [hj, ownSems_eq]
  unfold TalkSites.Fam.rides TalkSites.Fam.barPos
  rw [hd, ht]
  iintro ⟨⟨⟨⟨-, Hbar, #Hrb⟩, ⟨%κ, #HI⟩, ⟨⟨Po0, Po1, Po2⟩, ⟨-, Pr1, Pr2, Pr3⟩, ⟨Pn1, Pn2, Pn3⟩, ⟨-, Pa1, Pa2, Pa3⟩⟩,
      ⟨Tb1, Tb2, Tb3, Ts0, Ts1, Ts2, Tr1, Tr2, Tr3, Tn1, Tn2, Tn3, Ta1, Ta2, Ta3⟩⟩, Hcr⟩,
    ⟨⟨Hl0, Hl1, Hl2⟩, ⟨Ho0, Ho1, Ho2, Ho3⟩, ⟨Hr0, Hr1, Hr2, Hr3⟩, ⟨Hn0, Hn1, Hn2, Hn3⟩, ⟨Ha0, Ha1, Ha2, Ha3⟩⟩, #Hlev⟩
  ihave Hc := (creds c) $$ Hcr
  icases Hc with ⟨Cb, ⟨Cr1, Cr2, Cr3⟩, ⟨Ca1, Ca2, Ca3⟩⟩
  ihave #Hrb1 := (hrb (rot 1 c)) $$ Hrb
  ihave #Hrb2 := (hrb (rot 2 c)) $$ Hrb
  ihave #Hrb3 := (hrb (rot 3 c)) $$ Hrb
  imod (open_one X Wm κ c (sndL 0) (mem_snd 0 (by decide))) $$ [Po0 Ho0] with ⟨Ats0, #Rs0⟩
  · isplitr; · iexact HI
    isplitl [Po0] <;> iassumption
  imod (open_one X Wm κ c (sndL 1) (mem_snd 1 (by decide))) $$ [Po1 Ho1] with ⟨Ats1, #Rs1⟩
  · isplitr; · iexact HI
    isplitl [Po1] <;> iassumption
  imod (open_one X Wm κ c (sndL 2) (mem_snd 2 (by decide))) $$ [Po2 Ho2] with ⟨Ats2, #Rs2⟩
  · isplitr; · iexact HI
    isplitl [Po2] <;> iassumption
  imod (open_one X Wm κ c (asnL 1) (mem_asn 1 (by decide))) $$ [Pn1 Hn1] with ⟨Atn1, #Rn1⟩
  · isplitr; · iexact HI
    isplitl [Pn1] <;> iassumption
  imod (open_one X Wm κ c (asnL 2) (mem_asn 2 (by decide))) $$ [Pn2 Hn2] with ⟨Atn2, #Rn2⟩
  · isplitr; · iexact HI
    isplitl [Pn2] <;> iassumption
  imod (open_one X Wm κ c (asnL 3) (mem_asn 3 (by decide))) $$ [Pn3 Hn3] with ⟨Atn3, #Rn3⟩
  · isplitr; · iexact HI
    isplitl [Pn3] <;> iassumption
  imod (open_one X Wm κ c (rcvL (rot 1 c)) (mem_rcv (rot 1 c))) $$ [Pr1 Hr1] with ⟨Atr1, #Rr1⟩
  · isplitr; · iexact HI
    isplitl [Pr1] <;> iassumption
  imod (open_one X Wm κ c (rcvL (rot 2 c)) (mem_rcv (rot 2 c))) $$ [Pr2 Hr2] with ⟨Atr2, #Rr2⟩
  · isplitr; · iexact HI
    isplitl [Pr2] <;> iassumption
  imod (open_one X Wm κ c (rcvL (rot 3 c)) (mem_rcv (rot 3 c))) $$ [Pr3 Hr3] with ⟨Atr3, #Rr3⟩
  · isplitr; · iexact HI
    isplitl [Pr3] <;> iassumption
  imod (open_one X Wm κ c (arcL (rot 1 c)) (mem_arc (rot 1 c))) $$ [Pa1 Ha1] with ⟨Ata1, #Ra1⟩
  · isplitr; · iexact HI
    isplitl [Pa1] <;> iassumption
  imod (open_one X Wm κ c (arcL (rot 2 c)) (mem_arc (rot 2 c))) $$ [Pa2 Ha2] with ⟨Ata2, #Ra2⟩
  · isplitr; · iexact HI
    isplitl [Pa2] <;> iassumption
  imod (open_one X Wm κ c (arcL (rot 3 c)) (mem_arc (rot 3 c))) $$ [Pa3 Ha3] with ⟨Ata3, #Ra3⟩
  · isplitr; · iexact HI
    isplitl [Pa3] <;> iassumption
  imodintro
  isplitr; · iexists κ; iexact HI
  isplitr; · iexact Hlev
  isplitl [Ho3 Hr0 Hn0 Ha0]
  · isplitl [Ho3]; · iexact Ho3
    isplitl [Hr0]; · iexact Hr0
    isplitl [Hn0] <;> iassumption
  isplitl [Hl0 Hl1 Hl2]
  · isplitl [Hl0]; · iexact Hl0
    isplitl [Hl1] <;> iassumption
  isplitl [Tb1 Tb2 Tb3]
  · isplitl [Tb1]
    · isplitl [Tb1]; · iexact Tb1
      isplitr; · iexact Hrb1
      isplitr; · iexact Rr1
      iexact Ra1
    isplitl [Tb2]
    · isplitl [Tb2]; · iexact Tb2
      isplitr; · iexact Hrb2
      isplitr; · iexact Rr2
      iexact Ra2
    isplitl [Tb3]; · iexact Tb3
    isplitr; · iexact Hrb3
    isplitr; · iexact Rr3
    iexact Ra3
  isplitl [Ts0 Ts1 Ts2 Tr1 Tr2 Tr3]
  · isplitl [Ts0 Tr1]
    · isplitl [Ts0]; · iexact Ts0
      isplitr; · iexact Rs0
      iexact Tr1
    isplitl [Ts1 Tr2]
    · isplitl [Ts1]; · iexact Ts1
      isplitr; · iexact Rs1
      iexact Tr2
    isplitl [Ts2]; · iexact Ts2
    isplitr; · iexact Rs2
    iexact Tr3
  isplitl [Tn1 Tn2 Tn3 Ta1 Ta2 Ta3]
  · isplitl [Tn1 Ta1]
    · isplitl [Tn1]; · iexact Tn1
      isplitr; · iexact Rn1
      iexact Ta1
    isplitl [Tn2 Ta2]
    · isplitl [Tn2]; · iexact Tn2
      isplitr; · iexact Rn2
      iexact Ta2
    isplitl [Tn3]; · iexact Tn3
    isplitr; · iexact Rn3
    iexact Ta3
  isplitl [Hbar Cb]
  · isplitl [Hbar]; · iexact Hbar
    iexact Cb
  isplitl [Ats0 Ats1 Ats2]
  · isplitl [Ats0]; · iexact Ats0
    isplitl [Ats1] <;> iassumption
  isplitl [Atn1 Atn2 Atn3]
  · isplitl [Atn1]; · iexact Atn1
    isplitl [Atn2] <;> iassumption
  isplitl [Atr1 Atr2 Atr3]
  · isplitl [Atr1]; · iexact Atr1
    isplitl [Atr2] <;> iassumption
  isplitl [Ata1 Ata2 Ata3]
  · isplitl [Ata1]; · iexact Ata1
    isplitl [Ata2] <;> iassumption
  isplitl [Cr1 Cr2 Cr3]
  · isplitl [Cr1]; · iexact Cr1
    isplitl [Cr2] <;> iassumption
  isplitl [Ca1]; · iexact Ca1
  isplitl [Ca2] <;> iassumption

/-- Leaving: every cell past its round, so every counter reads zero; the barrier's position stays. -/
theorem close_all (c : Dev nD) : iprop(Invs X Wm κ ∗ spare c ∗ locals c ∗ talkPost c)
    ⊢ (iprop(|={Set.univ}=> (Pipeline.ownSems0 osem c ∗ Yk X Wm c)) : sProp 𝕄) := by
  rw [ownSems_eq]
  unfold talkPost spare locals Yk TalkSites.Fam.barPos
  iintro ⟨#HI, ⟨Ho3, Hr0, Hn0, Ha0⟩, ⟨Hl0, Hl1, Hl2⟩, Hbar, ⟨As0, As1, As2⟩, ⟨An1, An2, An3⟩, ⟨Ar1, Ar2, Ar3⟩, ⟨Aa1, Aa2, Aa3⟩⟩
  imod (close_one X Wm κ c (sndL 0) (mem_snd 0 (by decide))) $$ [As0] with Ho0
  · isplitr; · iexact HI
    iexact As0
  imod (close_one X Wm κ c (sndL 1) (mem_snd 1 (by decide))) $$ [As1] with Ho1
  · isplitr; · iexact HI
    iexact As1
  imod (close_one X Wm κ c (sndL 2) (mem_snd 2 (by decide))) $$ [As2] with Ho2
  · isplitr; · iexact HI
    iexact As2
  imod (close_one X Wm κ c (asnL 1) (mem_asn 1 (by decide))) $$ [An1] with Hn1
  · isplitr; · iexact HI
    iexact An1
  imod (close_one X Wm κ c (asnL 2) (mem_asn 2 (by decide))) $$ [An2] with Hn2
  · isplitr; · iexact HI
    iexact An2
  imod (close_one X Wm κ c (asnL 3) (mem_asn 3 (by decide))) $$ [An3] with Hn3
  · isplitr; · iexact HI
    iexact An3
  imod (close_one X Wm κ c (rcvL (rot 1 c)) (mem_rcv (rot 1 c))) $$ [Ar1] with Hr1
  · isplitr; · iexact HI
    iexact Ar1
  imod (close_one X Wm κ c (rcvL (rot 2 c)) (mem_rcv (rot 2 c))) $$ [Ar2] with Hr2
  · isplitr; · iexact HI
    iexact Ar2
  imod (close_one X Wm κ c (rcvL (rot 3 c)) (mem_rcv (rot 3 c))) $$ [Ar3] with Hr3
  · isplitr; · iexact HI
    iexact Ar3
  imod (close_one X Wm κ c (arcL (rot 1 c)) (mem_arc (rot 1 c))) $$ [Aa1] with Ha1
  · isplitr; · iexact HI
    iexact Aa1
  imod (close_one X Wm κ c (arcL (rot 2 c)) (mem_arc (rot 2 c))) $$ [Aa2] with Ha2
  · isplitr; · iexact HI
    iexact Aa2
  imod (close_one X Wm κ c (arcL (rot 3 c)) (mem_arc (rot 3 c))) $$ [Aa3] with Ha3
  · isplitr; · iexact HI
    iexact Aa3
  imodintro
  isplitr [Hbar]
  · isplitl [Hl0 Hl1 Hl2]
    · isplitl [Hl0]; · iexact Hl0
      isplitl [Hl1] <;> iassumption
    isplitl [Ho0 Ho1 Ho2 Ho3]
    · isplitl [Ho0]; · iexact Ho0
      isplitl [Ho1]; · iexact Ho1
      isplitl [Ho2] <;> iassumption
    isplitl [Hr0 Hr1 Hr2 Hr3]
    · isplitl [Hr0]; · iexact Hr0
      isplitl [Hr1]; · iexact Hr1
      isplitl [Hr2] <;> iassumption
    isplitl [Hn0 Hn1 Hn2 Hn3]
    · isplitl [Hn0]; · iexact Hn0
      isplitl [Hn1]; · iexact Hn1
      isplitl [Hn2] <;> iassumption
    isplitl [Ha0]; · iexact Ha0
    isplitl [Ha1]; · iexact Ha1
    isplitl [Ha2] <;> iassumption
  isplitr; · iexists κ; iexact HI
  isplitl [Hbar]; · iexact Hbar
  rw [bigSep_empty]
  iempintro

end Ghost

end Cert.KernelIdeal.Pf

end
-- ==== Proof.Run.lean ====
/-
  The run of the program: the host's cast of x, the kernel launched on every device, and what every buffer and counter holds
  in the end.
-/
module

public import proofs.«01_k».proof.Proof.Open

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI Idealize.SL.BI.BIClass
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Fam Pay tallyL addL credOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers outside the kernel -/

/-- The unscoped buffers: the two arguments, the cast of the first, the result. -/
def bufs : Finset (DevRef τ sig) := (StableHlo.tcRefs τ sig).filter fun b => ¬ b.isScoped
/-- Those no window stages. -/
def rest : Finset (DevRef τ sig) := {Proc.devRef .tc main_arg0, Proc.devRef .tc main_arg1, Proc.devRef .tc main_v2}

/-- At launch, when the kernel starts, when it has ended. -/
abbrev V₀ (c : Dev nD) : Valuation τ sig (Elt F) := fun b => m (c, b)
abbrev V₁ (c : Dev nD) : Valuation τ sig (Elt F) := StableHlo.after hostOps0 (V₀ m c)

/-- What the kernel is given: the staged cast of x, and w. -/
def Xv (c : Dev nD) : Vec F S1024x4096 .bf16 := iblk m c 0 t0_0
def Wmv (c : Dev nD) : S4096x8192.Idx → Elt F .f32 := V m c main_arg1

def V₂ (c : Dev nD) : Valuation τ sig (Elt F) := Function.update (V₁ m c) (Proc.devRef .tc main_v2) (OutB (Xv m) (Wmv m) c)

theorem V₂_out (c : Dev nD) : V₂ m c (Proc.devRef .tc main_v2) = OutB (Xv m) (Wmv m) c := Function.update_self _ _ _
theorem V₂_ne (c : Dev nD) (b : DevRef τ sig) (h : b ≠ Proc.devRef .tc main_v2) : V₂ m c b = V₁ m c b := Function.update_of_ne h _ _

abbrev pt (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(pt c main_arg0 (W (Proc.devRef .tc main_arg0)) ∗ pt c main_arg1 (W (Proc.devRef .tc main_arg1)) ∗ pt c main_v1 (W (Proc.devRef .tc main_v1)) ∗ pt c main_v2 (W (Proc.devRef .tc main_v2))) := by
  unfold StableHlo.held
  rw [bigSep_eq_bigSepL_of_eq [Proc.devRef .tc main_arg0, Proc.devRef .tc main_arg1, Proc.devRef .tc main_v1, Proc.devRef .tc main_v2] (by decide +kernel) (by decide +kernel)]
  rfl

theorem rest_eq (c : Dev nD) (W : Valuation τ sig (Elt F)) : (StableHlo.held (c : Thread nD τ) rest W : sProp 𝕄)
    = iprop(pt c main_arg0 (W (Proc.devRef .tc main_arg0)) ∗ pt c main_arg1 (W (Proc.devRef .tc main_arg1)) ∗ pt c main_v2 (W (Proc.devRef .tc main_v2))) := by
  unfold StableHlo.held
  rw [bigSep_eq_bigSepL_of_eq [Proc.devRef .tc main_arg0, Proc.devRef .tc main_arg1, Proc.devRef .tc main_v2] (by decide +kernel) (by decide +kernel)]
  rfl

theorem arr_eq (c : Dev nD) (W : Valuation τ sig (Elt F)) :
    (StableHlo.held (c : Thread nD τ) (Pipeline.arrRefs (τ := τ) spec0) W : sProp 𝕄) = pt c main_v1 (W (Proc.devRef .tc main_v1)) := by
  unfold StableHlo.held
  rw [bigSep_eq_bigSepL_of_eq [Proc.devRef .tc main_v1] (by decide +kernel) (by decide +kernel)]
  rfl

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = sv c barL := by
  unfold unscopedSems0
  rw [show (Finset.univ.filter fun sm : SemLoc sig => ¬ sm.isScoped .tc) = {barL} from by decide +kernel, BI.bigSep_singleton]

theorem unscoped_eq : ∀ sm : SemLoc sig, sm.isScoped .tc = false → sm = barL := by decide +kernel

/-! ## The kernel's proof data -/

abbrev adm : (p : Fin 1) → (pcfgs (F := F) p).Adm := fun p => (cfgs p).toPCfg_adm

/-- Before the one point: the scratch buffers, the arguments and the result buffer, the opened protocol. After it: the same with
    the result written, the kernel's counters back at zero. -/
def Ent (c : Dev nD) : sProp 𝕄 :=
  iprop(Pipeline.scopedRest spec0 c ∗ (∃ r, prngReg c r) ∗ StableHlo.held (c : Thread nD τ) rest (V₁ m c) ∗ Xk (Xv m) (Wmv m) c)
def Ext (c : Dev nD) : sProp 𝕄 :=
  iprop(Pipeline.scopedRest spec0 c ∗ (∃ r, prngReg c r) ∗ StableHlo.held (c : Thread nD τ) rest (V₂ m c) ∗ Pipeline.ownSems0 osem c ∗ Yk (Xv m) (Wmv m) c)

def dat (c : Dev nD) : Pipeline.Dat τ (Elt F) ℕ ℕ UU ℕ cfg0 c where
  A w := V m c (Pipeline.arrRef spec0 w)
  after := fun | 0 => fun t => iblk m c 0 t | ⟨_ + 1, h⟩ => absurd h (Nat.not_lt.2 (Nat.le_add_left _ _))
  Φ t := if t.val = 0 then Ent m c else Ext m c
  q _ := fullShare
  owed t := if t.val = 0 then Ow c 0 else 0

def pdats : (p : Fin 1) → (c : Dev nD) → Pipeline.Dat τ (Elt F) ℕ ℕ UU ℕ (Pipeline.pin (pcfgs (F := F)) adm p) c
  | 0 => dat m

theorem owed_first (c : Dev nD) : (dat m c).owed t0_0.castSucc = Ow c 0 := by
  show (if (t0_0.castSucc : Fin (cfg0.N + 1)).val = 0 then Ow c 0 else 0) = Ow c 0; exact if_pos rfl
theorem owed_zero (c : Dev nD) : (pdats m 0 c).owed 0 = Ow c 0 := by
  show (if ((0 : Fin (cfg0.N + 1)).val = 0) then Ow c 0 else 0) = Ow c 0; exact if_pos rfl
theorem owed_last (c : Dev nD) : (pdats m 0 c).owed (Fin.last _) = 0 := by
  show (if (Fin.last cfg0.N).val = 0 then Ow c 0 else 0) = 0
  rw [Fin.val_last, if_neg (by rw [show cfg0.N = 1 from N_0]; decide)]
theorem owed_succ (c : Dev nD) : (dat m c).owed t0_0.succ = 0 := by
  show (if (t0_0.succ : Fin (cfg0.N + 1)).val = 0 then Ow c 0 else 0) = 0; exact if_neg (by simp)
theorem Φ_first (c : Dev nD) : (dat m c).Φ t0_0.castSucc = Ent m c := by
  show (if (t0_0.castSucc : Fin (cfg0.N + 1)).val = 0 then Ent m c else Ext m c) = Ent m c; exact if_pos rfl
theorem Φ_succ (c : Dev nD) : (dat m c).Φ t0_0.succ = Ext m c := by
  show (if (t0_0.succ : Fin (cfg0.N + 1)).val = 0 then Ent m c else Ext m c) = Ext m c; exact if_neg (by simp)
theorem Φ_zero (c : Dev nD) : (pdats m 0 c).Φ 0 = Ent m c := by
  show (if (0 : Fin (cfg0.N + 1)).val = 0 then Ent m c else Ext m c) = Ent m c; exact if_pos rfl
theorem Φ_last (c : Dev nD) : (pdats m 0 c).Φ (Fin.last _) = Ext m c := by
  show (if (Fin.last cfg0.N).val = 0 then Ent m c else Ext m c) = Ext m c
  rw [Fin.val_last, if_neg (by rw [show cfg0.N = 1 from N_0]; decide)]

theorem before_x (c : Dev nD) (t : Fin cfg0.N) (d) : (dat m c).before 0 t d = iblk m c 0 t :=
  ((dat m c).before_in_eq_fetched 0 rfl (fun _ => rfl) (fun _ _ _ => rfl) (fun t => rfl) t d).trans rfl

theorem owesAt_in (c : Dev nD) (t : Fin (cfg0.N + 1)) (O : CellTallies nD τ sig ℕ) (h0 : (dat m c).owed t = O) (W : Waits sig ℕ) :
    (owes (c : Thread nD τ) O W : sProp 𝕄) ⊢ ((dat m c).owesAt 0 t : sProp 𝕄) := by
  unfold Dat.owesAt Pipeline.owesWithin Dat.bound; rw [h0]
  iintro HO; iexists W; isplitr; · ipureintro; exact fun _ _ => Or.inl trivial
  iexact HO
theorem owesAt_out (c : Dev nD) (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-- The kernel from what it is entered with to what it leaves. -/
theorem whole_run (c : Dev nD) :
    iprop(Ent m c ∗ (∃ W, owes (c : Thread nD τ) (Ow c 0) W) ∗ pt c cc0_stg0_0 (Xv m c))
      ⊢ (wp frame (wpE defs₀ 𝒱₀ (c : Thread nD τ) none) Set.univ (bodyAt0 (F := F) t0_0)
          (fun _ => iprop(Ext m c ∗ (∃ W, owes (c : Thread nD τ) 0 W) ∗ pt c cc0_stg0_0 (Xv m c))) : sProp 𝕄) := by
  unfold Ent Ext Xk
  rw [scopedRest0_eq, rest_eq, rest_eq]
  iintro ⟨⟨⟨⟨%g, Hg⟩, ⟨%h, Hh⟩, ⟨%hr, Hr⟩, ⟨%ha, Ha⟩, ⟨%ht, Ht⟩⟩, Hp, ⟨H0, H1, H2⟩, ⟨%κ, #HI⟩, #Hlev, Hsp, Hlo, ⟨S1, S2, S3⟩, Hk⟩, ⟨%W, HO⟩, Hx⟩
  ihave Hg' := (Entails.of_eq (weights c g)) $$ Hg
  icases Hg' with ⟨Hg0, Hg1⟩
  ihave Hh' := (Entails.of_eq (sends c h)) $$ Hh
  icases Hh' with ⟨Hh0, Hh1⟩
  ihave Hr' := (Entails.of_eq (slots c hr)) $$ Hr
  icases Hr' with ⟨Hr0, Hr1, Hr2, Hr3⟩
  ihave Ha' := (Entails.of_eq (rows c fullShare ha)) $$ Ha
  icases Ha' with ⟨Ha0, Ha1, Ha2, Ha3⟩
  iapply (wp_fupd _ _)
  iapply (wp_wand (wpE := wpE defs₀ 𝒱₀ (c : Thread nD τ) none) (Q := fun _ => bodyPost (Xv m) (Wmv m) c)) $$ [H1 H2 S1 S2 S3 Hk Hlo Hg0 Hg1 Hh0 Hh1 Hr0 Hr1 Hr2 Hr3 Ha0 Ha1 Ha2 Ha3 Ht HO Hx]
  · iapply (run_body (Xv m) (Wmv m) κ c W g g h h hr ha ht (V₁ m c (Proc.devRef .tc main_v2)))
    rw [talkPre_split]
    isplitr; · isplitr; · iexact HI
               iexact Hlev
    isplitl [Hx]; · iexact Hx
    isplitl [H1]; · iexact H1
    isplitl [Hg0 Hg1 Hh0 Hh1 Hr0 Ha0 Ht H2]
    · isplitl [Hg0]; · iexact Hg0
      isplitl [Hg1]; · iexact Hg1
      isplitl [Hh0]; · iexact Hh0
      isplitl [Hh1]; · iexact Hh1
      isplitl [Hr0]; · iexact Hr0
      isplitl [Ha0]; · iexact Ha0
      isplitl [Ht]; · iexact Ht
      iexact H2
    isplitl [Hlo]; · unfold locals; iexact Hlo
    isplitl [HO]; · iexact HO
    isplitr [Hk]
    · isplitl [S1 Hr1 Ha1]
      · iapply (sig_intro c 1 (by omega) hr ha)
        isplitl [S1]; · iexact S1
        isplitl [Hr1] <;> iassumption
      isplitl [S2 Hr2 Ha2]
      · iapply (sig_intro c 2 (by omega) hr ha)
        isplitl [S2]; · iexact S2
        isplitl [Hr2] <;> iassumption
      iapply (sig_intro c 3 (by omega) hr ha)
      isplitl [S3]; · iexact S3
      isplitl [Hr3] <;> iassumption
    iexact Hk
  iintro %u Hpost
  unfold bodyPost
  icases Hpost with ⟨Hx, H1, ⟨Hg, Hh, Hr, Ha, Ht⟩, H2, Hlo, HO, Htk⟩
  imod (close_all (Xv m) (Wmv m) κ c) $$ [Hsp Hlo Htk] with ⟨Hos, HY⟩
  · isplitr; · iexact HI
    isplitl [Hsp]; · iexact Hsp
    isplitl [Hlo]; · unfold locals; iexact Hlo
    iexact Htk
  imodintro
  isplitr [HO Hx]
  · isplitl [Hg Hh Hr Ha Ht]
    · isplitl [Hg]; · iexact Hg
      isplitl [Hh]; · iexact Hh
      isplitl [Hr]; · iexact Hr
      isplitl [Ha]; · iexact Ha
      iexact Ht
    isplitl [Hp]; · iexact Hp
    isplitl [H0 H1 H2]
    · rw [V₂_out, V₂_ne m c (Proc.devRef .tc main_arg0) (by decide), V₂_ne m c (Proc.devRef .tc main_arg1) (by decide)]
      isplitl [H0]; · iexact H0
      isplitl [H1]; · iexact H1
      iexact H2
    isplitl [Hos]; · iexact Hos
    iexact HY
  isplitl [HO]; · iexact HO
  iexact Hx

theorem body_ok (c : Dev nD) : BodyObligation (dat m c) defs₀ 𝒱₀ 0 Set.univ := fun t => by
  obtain rfl := fin_N0 t
  rw [Φ_first, Φ_succ, bigSep_W0, bigSep_W0]
  have hin (d) : (owns (c : Thread nD τ) ((cfg0.win 0).stage (cfg0.slots t0_0 0)) fullShare ((dat m c).before 0 t0_0 d) : sProp 𝕄) = pt c cc0_stg0_0 (Xv m c) := by
    rw [before_x]; exact owns_whole (c : Thread nD τ) cc0_stg0_0 fullShare (Xv m c)
  have hrun := whole_run m c
  iintro ⟨HE, HO, ⟨%d, Hx⟩⟩
  ihave Hx' := (Entails.of_eq (hin d)) $$ Hx
  ihave HO' := (owesAt_out m c _ (Ow c 0) (owed_first m c)) $$ HO
  iapply (wp_wand (wpE := wpE defs₀ 𝒱₀ (c : Thread nD τ) none) (Q := fun _ => iprop(Ext m c ∗ (∃ W, owes (c : Thread nD τ) 0 W) ∗ pt c cc0_stg0_0 (Xv m c)))) $$ [HE HO' Hx']
  · iapply hrun
    isplitl [HE]; · iexact HE
    isplitl [HO'] <;> iassumption
  iintro %u ⟨HE, ⟨%W, HO⟩, Hx⟩
  isplitl [HE]; · iexact HE
  isplitl [HO]; · iapply (owesAt_in m c t0_0.succ 0 (owed_succ m c) W); iexact HO
  iapply (Entails.of_eq (owns_whole (c : Thread nD τ) cc0_stg0_0 fullShare (Xv m c)).symm)
  iexact Hx

/-! ## The two segments of the program -/

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- What rides beside the buffers up to the kernel. -/
def R (c : Dev nD) : sProp 𝕄 := iprop(Tk (Xv m) (Wmv m) c ∗ (∃ r, prngReg c r) ∗ ∃ W, owes (c : Thread nD τ) (Ow c 0) W)

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide +kernel

def seg0 : ℍ := Pipeline.HostSeg.ofOps _ _ _ _ _ bufs hostOps0 ops_sub (List.forall_iff_forall_mem.mp hostOps0_fresh) (V₀ m) (R m)

theorem owed_cut (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then Ow c 0 else 0 := rfl
  rw [e] at h
  split at h
  · rw [Ow_zero] at h
    obtain ⟨x, hx, rfl, rfl⟩ := TalkSites.tallyL_pos h
    obtain ⟨h1, h2, h3⟩ := dueL_tc c x hx
    exact ⟨SiteBlocks.mem_L' h1 h3, h2⟩
  · exact absurd h (Nat.lt_irrefl 0)

theorem arr_in (c : Dev nD) (w : Fin 1) (n : ℕ) : (pdats m 0 c).arrAt w n = V₁ m c (Proc.devRef .tc (Pipeline.arrRef spec0 w)) := by
  fin_cases w
  exact (dat m c).arrAt_in 0 rfl n

theorem share_full (c : Dev nD) (w : Fin 1) : (pdats m 0 c).share w = fullShare := by
  show (dat m c).share w = fullShare
  unfold Dat.share; split <;> rfl

set_option backward.isDefEq.respectTransparency.types false in
def reg0 : ℝ𝕊 0 :=
  Pipeline.RegionSeg.ofTalk (pcfgs (F := F)) adm (pdats m) 0 defs₀ 𝒱₀ L lv 0 osem osem_facts
    rest rest (Finset.Subset.refl _) (Pipeline.LaunchFacts.toP launch0) rfl (fun c => (body_ok m c).loose)
    (fun _ => 0) (fun c => Ow c 0) (fun c => (owed_zero m c).trans (zero_add _).symm) (owed_last m) (fun _ => rfl) (share_full m)
    (V₁ m) (V₂ m) (fun _ b hb => absurd hb (by rw [Finset.sdiff_self]; exact Finset.notMem_empty b))
    (Tk (Xv m) (Wmv m)) (Yk (Xv m) (Wmv m)) (Xk (Xv m) (Wmv m)) (Yk (Xv m) (Wmv m)) (open_all (Xv m) (Wmv m))
    (fun c => by rw [Φ_zero]; exact .rfl) (fun c => by rw [Φ_last]; exact .rfl)
    (fun c => by iintro H; imodintro; iexact H)
    (fun _ => 0)
    ⟨fun c w s => SiteBlocks.mem_L' rfl (by decide), fun _ _ _ => Nat.le_refl 0, fun c t g i h => owed_cut m c t g i h⟩
    (fun _ => iprop(emp))
    (fun c w => arr_in m c w 0) (fun c w => (arr_in m c w _).trans (V₂_ne m c _ (by obtain rfl := Subsingleton.elim w (0 : Fin 1); decide)).symm)

theorem reg0_pre (c : Dev nD) : iprop(StableHlo.held (c : Thread nD τ) bufs (V₁ m c) ∗ R m c) ⊢ (reg0 m).pre c := by
  show _ ⊢ iprop(StableHlo.held (c : Thread nD τ) (Pipeline.arrRefs (τ := τ) spec0) (V₁ m c) ∗ (∃ r, prngReg c r)
    ∗ (StableHlo.held (c : Thread nD τ) rest (V₁ m c) ∗ emp) ∗ Tk (Xv m) (Wmv m) c ∗ ∃ Wd, owes (c : Thread nD τ) (0 + Ow c 0) Wd)
  rw [arr_eq, rest_eq, bufs_eq, zero_add]
  unfold R
  iintro ⟨⟨H0, H1, Hv, H2⟩, HT, Hp, HO⟩
  isplitl [Hv]; · iexact Hv
  isplitl [Hp]; · iexact Hp
  isplitl [H0 H1 H2]
  · isplitl [H0 H1 H2]
    · isplitl [H0]; · iexact H0
      isplitl [H1]; · iexact H1
      iexact H2
    iempintro
  isplitl [HT]; · iexact HT
  iexact HO

theorem reg0_post (c : Dev nD) : (reg0 m).post c
    ⊢ iprop((StableHlo.held (c : Thread nD τ) bufs (V₂ m c) ∗ Yk (Xv m) (Wmv m) c) ∗ ∃ W, owes (c : Thread nD τ) (0 : CellTallies nD τ sig ℕ) W) := by
  show iprop(StableHlo.held (c : Thread nD τ) (Pipeline.arrRefs (τ := τ) spec0) (V₂ m c) ∗ (∃ r, prngReg c r)
    ∗ (StableHlo.held (c : Thread nD τ) rest (V₂ m c) ∗ emp) ∗ Yk (Xv m) (Wmv m) c ∗ ∃ Wd, owes (c : Thread nD τ) (0 : CellTallies nD τ sig ℕ) Wd) ⊢ _
  rw [arr_eq, rest_eq, bufs_eq]
  iintro ⟨Hv, -, ⟨⟨H0, H1, H2⟩, -⟩, HY, HO⟩
  isplitr [HO]
  · isplitr [HY]
    · isplitl [H0]; · iexact H0
      isplitl [H1]; · iexact H1
      isplitl [Hv]; · iexact Hv
      iexact H2
    iexact HY
  iexact HO

def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

/-! ## The launch -/

/-- The launch element: the pipeline's part, the protocol's part. -/
def u₀ : UU :=
  (initOf (Pipeline.cells (Pipeline.pin (pcfgs (F := F)) adm) cellOf_inj) (Pipeline.launchToks (Pipeline.pin (pcfgs (F := F)) adm) cellOf_inj),
    (launchOf Fm.S Fm.Sd Fm.T, 1))

/-- The protocol's part, kept whole on device 0 until every device's share is dealt. -/
def G (c : Dev nD) : sProp 𝕄 := if c = 0 then BI.own (ER (launchOf Fm.S Fm.Sd Fm.T)) else iprop(emp)

theorem G_all : (bigSep Finset.univ G : sProp 𝕄) = BI.own (ER (launchOf Fm.S Fm.Sd Fm.T)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The barrier counters and the protocol's part become every device's share. -/
theorem deal : SiteBlocks.Funds ER (fun c : Dev nD => (sv c barL : sProp 𝕄)) (fun d => tallyL (dueL d)) (launchOf Fm.S Fm.Sd Fm.T)
    (fun c => iprop(Pipeline.launchCred (fun d => tallyL (dueL d)) c ∗ Fm.launched ER (Rd (Xv m) (Wmv m)) (fun _ => Finset.univ) c)) Set.univ := by
  have h := TalkSites.pass (fun d => tallyL (dueL d)) (Fm.funds ER (Rd (Xv m) (Wmv m)) (fun _ _ h => h) (fun _ => Finset.univ) (Es := Set.univ))
  simp only [zero_add] at h
  exact h

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ Yk (Xv m) (Wmv m) c)

theorem init :
    iprop((bigSep Finset.univ fun c : Dev nD => iprop(unscopedBufs c (fun b => m ((c : Thread nD τ).loc b)) ∗ unscopedSems0 c
          ∗ owes (c : Thread nD τ) (Ow c 0) ∅ ∗ Pipeline.launchCred (fun c => Ow c 0) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Ow c 0) ∅ ∗ Pipeline.launchCred (fun c => Ow c 0) c ∗ prngReg c (ρ c) ∗ G c)
      ⊢ (iprop((StableHlo.held (c : Thread nD τ) bufs (V₀ m c) ∗ (∃ r, prngReg c r) ∗ ∃ W, owes (c : Thread nD τ) (Ow c 0) W)
        ∗ ((sv c barL ∗ Pipeline.launchCred (fun d => tallyL (dueL d)) c) ∗ G c)) : sProp 𝕄) := by
    rw [show unscopedBufs c (fun b => m ((c : Thread nD τ).loc b)) = StableHlo.held (c : Thread nD τ) bufs (V₀ m c) from unscopedBufs_held c (V₀ m c),
      unscopedSems0_eq]
    iintro ⟨Hh, Hus, HO, Hcr, Hp, HG⟩
    isplitr [Hus Hcr HG]
    · isplitl [Hh]; · iexact Hh
      isplitl [Hp]; · iexists (ρ c); iexact Hp
      iexists ∅; iexact HO
    isplitr [HG]
    · isplitl [Hus]; · iexact Hus
      iexact Hcr
    iexact HG
  have hT (c : Dev nD) : iprop((StableHlo.held (c : Thread nD τ) bufs (V₀ m c) ∗ (∃ r, prngReg c r) ∗ ∃ W, owes (c : Thread nD τ) (Ow c 0) W)
        ∗ (Pipeline.launchCred (fun d => tallyL (dueL d)) c ∗ Fm.launched ER (Rd (Xv m) (Wmv m)) (fun _ => Finset.univ) c)) ⊢ (T₀ m c : sProp 𝕄) := by
    unfold T₀ R Tk
    iintro ⟨⟨Hh, Hp, HO⟩, Hc, Hl⟩
    isplitl [Hh]; · iexact Hh
    isplitl [Hc Hl]; · isplitl [Hl] <;> iassumption
    isplitl [Hp] <;> iassumption
  have hcores : (bigSep Finset.univ fun c : Dev nD => iprop(unscopedBufs c (fun b => m ((c : Thread nD τ).loc b)) ∗ unscopedSems0 c
        ∗ owes (c : Thread nD τ) (Ow c 0) ∅ ∗ Pipeline.launchCred (fun c => Ow c 0) c ∗ prngReg c (ρ c) ∗ G c))
      ⊢ (bigSep Finset.univ fun c : Dev nD => iprop((StableHlo.held (c : Thread nD τ) bufs (V₀ m c) ∗ (∃ r, prngReg c r) ∗ ∃ W, owes (c : Thread nD τ) (Ow c 0) W)
        ∗ ((sv c barL ∗ Pipeline.launchCred (fun d => tallyL (dueL d)) c) ∗ G c)) : sProp 𝕄) := bigSep_mono fun c _ => hcore c
  have hTs : (bigSep Finset.univ fun c : Dev nD => iprop((StableHlo.held (c : Thread nD τ) bufs (V₀ m c) ∗ (∃ r, prngReg c r) ∗ ∃ W, owes (c : Thread nD τ) (Ow c 0) W)
        ∗ (Pipeline.launchCred (fun d => tallyL (dueL d)) c ∗ Fm.launched ER (Rd (Xv m) (Wmv m)) (fun _ => Finset.univ) c)))
      ⊢ (bigSep Finset.univ (T₀ m) : sProp 𝕄) := bigSep_mono fun c _ => hT c
  have hd := deal m
  unfold SiteBlocks.Funds at hd
  iintro ⟨H, -⟩
  ihave H' := (hcores) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq G_all) $$ HG
  imod hd $$ [Hv Hu] with Hl
  · isplitl [Hv]; · iexact Hv
    iexact Hu
  imodintro
  iapply hTs
  iapply (Entails.of_eq (bigSep_sep' _ _ _).symm)
  isplitl [HB]; · iexact HB
  iexact Hl

set_option backward.isDefEq.respectTransparency.types false in
/-- From any memory with zero counters, every fair run of the program on the four devices ends; the arguments are as they were,
    every device's result holds what its four row blocks dequantise to, and every counter is zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = OutB (Xv m) (Wmv m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => Ow c 0) (hL := fun g h => SiteBlocks.hL K g h) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v2) = V₂ m c (Proc.devRef .tc main_v2))
      ∧ s.sem (cell c barL) = 0)
    (hfin := fun c s' => by
      dsimp only [Tₙ]; rw [bufs_eq]
      have hb := Fm.barPos_read ER (Rd (Xv m) (Wmv m)) c (duties_later (Xv m) (Wmv m) (cell c barL) (0 + 1) (le_refl _)) ∅ s'
      iintro ⟨⟨⟨H0, H1, -, H2⟩, HY⟩, HSI⟩
      icombine HSI H0 gives %h0
      icombine HSI H1 gives %h1
      icombine HSI H2 gives %h2
      imod hb $$ [HY HSI] with ⟨%hz, HSI⟩
      · isplitl [HY]; · unfold Yk; iexact HY
        iexact HSI
      imodintro
      isplitr
      · ipureintro
        exact ⟨⟨Buf.eq_of_forall_mem_univ h0, Buf.eq_of_forall_mem_univ h1, Buf.eq_of_forall_mem_univ h2⟩, hz⟩
      iexact HSI)
    (hQ := fun s h hs => ⟨fun c => by
        obtain ⟨⟨h0, h1, h2⟩, -⟩ := h c
        rw [V₂_ne m c _ (by decide)] at h0 h1
        rw [V₂_out] at h2
        exact ⟨h0.trans (V_main_arg0 m c), h1.trans (V_main_arg1 m c), h2⟩,
      sem_eq_zero hs fun c sm hsm => by
        obtain rfl := unscoped_eq sm hsm
        exact (h c).2⟩)

end Cert.KernelIdeal.Pf

end
-- ==== Proof.Frames.lean ====
/-
  The three frames, each from a run already proved: the kernel's at either reading, the reference's as generated.
-/
module

public import proofs.«01_k».proof.Defs
public import proofs.«01_k».proof.Proof.Run
public import proofs.«01_k».proof.Proof.Gen.Kernel
public import proofs.«01_k».proof.Proof.Gen.ReferenceIdeal.Run
public import Idealize.ShloMosaic.Init

@[expose] public section

noncomputable section

namespace Cert.Proof

open Idealize.ShloMosaic Idealize.SL.Sem

/-- The run, kept to what a frame asks, at any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Pf.run_main (F := F) m ρ)

/-- The same text read at the extended reals. -/
theorem frame_kernelIdeal : Cert.quiescent_KernelIdeal := fun m ρ _ => frame_any m ρ

/-- The two printings of the kernel's table of bodies are one. -/
theorem defs₀_eq {F : FTy → Type} [FloatOps F] : Cert.Kernel.defs₀ (F := F) = Cert.KernelIdeal.defs₀ (F := F) := by
  refine congrArg Defs.onTc ?_
  funext l a
  match l, a with
  | 0, (t, s) => rfl

theorem defs_eq {F : FTy → Type} [FloatOps F] : Cert.Kernel.defs (F := F) = Cert.KernelIdeal.defs (F := F) :=
  congrArg (Pipeline.defs Cert.KernelIdeal.pcfgs) defs₀_eq

/-- The kernel read at bits. -/
theorem frame_kernel : Cert.quiescent_Kernel := fun m ρ _ =>
  (congrArg (fun D => θ_run D (onTc (τ := Cert.Kernel.τ) (Cert.Kernel.main (F := Bits))) ⟨m, fun _ => 0, ρ⟩ _) defs_eq).mpr (frame_any (F := Bits) m ρ)

/-- The reference, which has no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

end Cert.Proof

end
-- ==== Proof.Scalar.lean ====
/-
  The quantiser on one entry, at the extended reals: multiplying by 127 / g is dividing by g / 127,
  and the lower bound of the clip is never met where the entry is not negative.
-/
module

public import Idealize.ShloMosaic.PureOps.Ideal.Laws
public import Idealize.ShloMosaic.Lib.Pointwise

@[expose] public section

noncomputable section

namespace Cert.Val

open Idealize.ShloMosaic

/-- The words of 127 and of −127, of zero and of −∞. -/
theorem ofBits_127 : Ideal.ofBits .f32 0x42FE0000#32 = ((127 : ℝ) : EReal) := by
  simp [Ideal.ofBits, Ideal.ieee]; norm_cast; norm_num
theorem ofBits_m127 : Ideal.ofBits .f32 0xC2FE0000#32 = ((-127 : ℝ) : EReal) := by
  simp [Ideal.ofBits, Ideal.ieee]; norm_cast; norm_num
theorem ofBits_zero : Ideal.ofBits .f32 0x00000000#32 = 0 := Ideal.ofBits_zero_f32
theorem ofBits_bot : Ideal.ofBits .f32 0xFF800000#32 = ⊥ := by
  simp [Ideal.ofBits, Ideal.ieee]

/-- Rounding keeps a number that is not negative so. -/
theorem round_nonneg (x : EReal) (h : 0 ≤ x) : 0 ≤ Ideal.liftRound Ideal.roundHalfEven x := by
  induction x with
  | bot => exact h
  | top => exact h
  | coe r =>
    have hr : 0 ≤ r := by exact_mod_cast h
    have hf : 0 ≤ ⌊r⌋ := Int.floor_nonneg.2 hr
    have : 0 ≤ Ideal.roundHalfEven r := by
      unfold Ideal.roundHalfEven
      simp only
      split_ifs <;> omega
    rw [Ideal.liftRound_coe]
    exact_mod_cast this

/-- The largest of finitely many numbers, by its upper bounds. -/
theorem fold_le {α : Type*} [Fintype α] (f : α → EReal) (b : EReal) : Finset.fold max ⊥ f Finset.univ ≤ b ↔ ∀ k, f k ≤ b := by
  rw [Finset.fold_max_le]
  exact ⟨fun h k => h.2 k (Finset.mem_univ k), fun h => ⟨bot_le, fun k _ => h k⟩⟩

/-- One entry `y` under the largest entry `g`: the kernel's expression and the reference's. -/
theorem quant_eq (y g : EReal) (hy : 0 ≤ y) (hg : 0 ≤ g) :
    min (Ideal.liftRound Ideal.roundHalfEven (y * Ideal.div (127 : ℝ) g)) (127 : ℝ) * Ideal.div g (127 : ℝ)
      = min ((127 : ℝ) : EReal) (max ((-127 : ℝ) : EReal) (Ideal.liftRound Ideal.roundHalfEven (Ideal.div y (Ideal.div g (127 : ℝ))))) * Ideal.div g (127 : ℝ) := by
  have h127 : ((127 : ℝ) : EReal) ≠ 0 := by exact_mod_cast (by norm_num : (127 : ℝ) ≠ 0)
  have hs : Ideal.div g ((127 : ℝ) : EReal) = g * ((127 : ℝ) : EReal)⁻¹ := if_neg h127
  by_cases h0 : g = 0
  · rw [hs, h0, zero_mul, mul_zero, mul_zero]
  · have hi : (((127 : ℝ) : EReal)⁻¹) ≠ 0 := by rw [← EReal.coe_inv]; exact_mod_cast (by norm_num : ((127 : ℝ)⁻¹) ≠ 0)
    have hd : Ideal.div g ((127 : ℝ) : EReal) ≠ 0 := by rw [hs]; exact mul_ne_zero h0 hi
    have h1 : Ideal.div ((127 : ℝ) : EReal) g = (127 : ℝ) * g⁻¹ := if_neg h0
    have h2 : Ideal.div y (Ideal.div g ((127 : ℝ) : EReal)) = y * ((127 : ℝ) * g⁻¹) := by
      rw [Ideal.div, if_neg hd, hs, EReal.mul_inv, ← EReal.coe_inv, ← EReal.coe_inv, inv_inv, mul_comm g⁻¹]
    have hn : 0 ≤ y * (((127 : ℝ) : EReal) * g⁻¹) := by
      refine mul_nonneg hy (mul_nonneg (by exact_mod_cast (by norm_num : (0 : ℝ) ≤ 127)) ?_)
      exact EReal.inv_nonneg_of_nonneg hg
    rw [h1, h2, max_eq_right, min_comm]
    refine le_trans ?_ (round_nonneg _ hn)
    exact_mod_cast (by norm_num : (-127 : ℝ) ≤ 0)

end Cert.Val

end
-- ==== Proof.RefValue.lean ====
/-
  The reference's result read at an entry: the rectified product, its largest entry, and the quantiser on the two.
-/
module

public import proofs.«01_k».proof.Proof.Gen.ReferenceIdeal.Run
public import proofs.«01_k».proof.Proof.Scalar

@[expose] public section

noncomputable section

namespace Cert.Val

open Idealize.ShloMosaic
open Cert.ReferenceIdeal Cert.ReferenceIdeal.Gen

variable (x : FVec Ideal S4096x4096 .f32) (w : FVec Ideal S4096x8192 .f32)

/-- Entry (i, j) of the rectified product. -/
def Y (i : Fin 4096) (j : Fin 8192) : EReal := max (∑ k : Fin 4096, x (ix2 i k) * w (ix2 k j)) 0

theorem Y_nonneg (i : Fin 4096) (j : Fin 8192) : 0 ≤ Y x w i j := le_max_right _ _

/-- The reference's arrays: the rectified product, its largest entry, the scale, the result. -/
def refY : FVec Ideal S4096x8192 .f32 :=
  maximumf (Host.dotGeneral dot_S4096x4096_S4096x8192_S4096x8192_1_0_0_1_n_n none x w) (broadcastInDim S4096x8192 ![] bcast_S_S4096x8192 (constant S_ .f32 0x00000000#32))
def refG : FVec Ideal S_ .f32 :=
  Host.reduce FloatOps.maximumf (Host.absf (refY x w)) (constant S_ .f32 0xFF800000#32) reducesTo_S4096x8192_S_d0_1 h_S_
def refS : FVec Ideal S_ .f32 := Host.divf (refG x w) (constant S_ .f32 0x42FE0000#32)
def refOut : FVec Ideal S4096x8192 .bf16 :=
  truncf .bf16 (mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (refY x w) (broadcastInDim S4096x8192 ![] bcast_S_S4096x8192 (refS x w))))))
    (broadcastInDim S4096x8192 ![] bcast_S_S4096x8192 (refS x w))) bitsLt_bf16_f32

theorem refY_apply (i : Fin 4096) (j : Fin 8192) : refY x w (ix2 i j) = Y x w i j := by
  pointwise [refY, Y]

/-- The largest entry, as a number. -/
def G : EReal := refG x w ix0

theorem G_le_iff (b : EReal) : G x w ≤ b ↔ ∀ i j, Y x w i j ≤ b := by
  unfold G refG
  pointwise
  have e (i : Fin 4096) (j : Fin 8192) : FloatOps.absf (F := Ideal) (φ := .f32) (refY x w (ix2 i j)) = Y x w i j := by
    rw [refY_apply]
    exact max_eq_left ((EReal.neg_le_neg_iff.2 (Y_nonneg x w i j)).trans (neg_zero.le.trans (Y_nonneg x w i j)))
  rw [ofBits_bot, fold_le]
  constructor
  · intro h i j
    rw [← e]
    exact h (i, j)
  · intro h k
    exact (e k.1 k.2).le.trans (h k.1 k.2)

theorem G_nonneg : 0 ≤ G x w := (Y_nonneg x w 0 0).trans ((G_le_iff x w _).1 le_rfl 0 0)

/-- An entry of the result. -/
theorem refOut_apply (i : Fin 4096) (j : Fin 8192) :
    refOut x w (ix2 i j)
      = min ((127 : ℝ) : EReal) (max ((-127 : ℝ) : EReal) (Ideal.liftRound Ideal.roundHalfEven (Ideal.div (Y x w i j) (Ideal.div (G x w) (127 : ℝ)))))
        * Ideal.div (G x w) (127 : ℝ) := by
  have hS : refS x w ix0 = Ideal.div (G x w) (127 : ℝ) := by
    rw [← ofBits_127]; rfl
  rw [← refY_apply, ← hS, ← ofBits_127, ← ofBits_m127]
  unfold refOut
  pointwise
  rfl

end Cert.Val

end
-- ==== Proof.KerValue.lean ====
/-
  The kernel's contents read at an entry, where device s holds block s of x's rows and all of w: what it computed is
  the rectified product's entry, the largest of the four amax rows is the product's largest entry, and what it stores
  is the reference's entry.
-/
module

public import proofs.«01_k».proof.Proof.Out
public import proofs.«01_k».proof.Proof.RefValue

@[expose] public section

noncomputable section

namespace Cert.Val

open Idealize.ShloMosaic
open Cert.KernelIdeal Cert.KernelIdeal.Gen Cert.KernelIdeal.Pf

variable (x : FVec Ideal Cert.ReferenceIdeal.S4096x4096 .f32) (w : FVec Ideal S4096x8192 .f32)
variable (X : Dev nD → Vec Ideal S1024x4096 .bf16) (Wm : Dev nD → S4096x8192.Idx → Elt Ideal .f32)

/-- Row i of device s's block, and column j of the block meant for device d. -/
def row (s : Dev nD) (i : Fin 1024) : Fin 4096 := ⟨1024 * s.val + i.val, by have h1 : s.val < 4 := s.isLt; have h2 := i.isLt; omega⟩
def col (d : Dev nD) (j : Fin 2048) : Fin 8192 := ⟨2048 * d.val + j.val, by have h1 : d.val < 4 := d.isLt; have h2 := j.isLt; omega⟩
/-- Column j of block q of a device's 2048 columns. -/
def sub (q : Fin 4) (j : Fin 512) : Fin 2048 := ⟨512 * q.val + j.val, by have h1 := q.isLt; have h2 := j.isLt; omega⟩

/-- What the devices hold, said of the whole arrays. -/
structure Holds : Prop where
  x : ∀ s i k, X s (ix2 i k) = x (ix2 (row s i) k)
  w : ∀ s, Wm s = w

variable {x w X Wm} (H : Holds x w X Wm)
include H

theorem wv_apply (s d : Dev nD) (q : Fin 4) (k : Fin 4096) (j : Fin 512) :
    Wv Wm s d q (ix3 0 k j) = w (ix2 k (col d (sub q j))) := by
  unfold Wv
  rw [H.w]
  refine congrArg w ?_
  funext a; refine Fin.ext ?_
  fin_cases a
  · rfl
  · show 2048 * d.val + 512 * q.val + j.val = 2048 * d.val + (512 * q.val + j.val); omega

theorem pay1_apply (s d : Dev nD) (q : Fin 4) (i : Fin 1024) (j : Fin 512) :
    k0_pay1 (F := Ideal) (X s) (Wv Wm s d q) (ix2 i j) = Y x w (row s i) (col d (sub q j)) := by
  pointwise [k0_pay1, Y]
  simp only [H.x, wv_apply H]

theorem data_apply (s d : Dev nD) (i : Fin 1024) (j : Fin 2048) :
    dataAt X Wm s d i j = Y x w (row s i) (col d j) := by
  have e : ∀ (q : Fin 4) (r : Fin 512), k0_pay3 (F := Ideal) (X s) (Wv Wm s d q) (ix3 0 i r) = Y x w (row s i) (col d (sub q r)) := by
    intro q r
    rw [← pay1_apply H]
    pointwise [k0_pay3]
  refine (e _ _).trans (congrArg (Y x w (row s i)) (congrArg (col d) (Fin.ext ?_)))
  show 512 * (j.val / 512) + j.val % 512 = j.val
  omega

omit H in
/-- The largest entry of a block, by its upper bounds. -/
theorem blockMax_le (y : FVec Ideal S1024x512 .f32) (b : EReal) : blockMax y ≤ b ↔ ∀ i j, y (ix2 i j) ≤ b := by
  pointwise [blockMax]
  rw [ofBits_bot, fold_le]
  exact ⟨fun h i j => h (i, j), fun h k => h k.1 k.2⟩

omit H in
theorem runMax_succ (s : Dev nD) (n : ℕ) :
    runMax X Wm s (n + 1) = Scalar.maximumf (runMax X Wm s n) (blockMax (k0_pay1 (X s) (Wv Wm s (rot (n / 4 + 1) s) ⟨n % 4, Nat.mod_lt _ (by decide)⟩))) :=
  (max_step X Wm s n ⟨n % 4, Nat.mod_lt _ (by decide)⟩ rfl _ _ rfl rfl).symm

omit H in
theorem max_le (u v b : Ideal .f32) : Scalar.maximumf u v ≤ b ↔ u ≤ b ∧ v ≤ b := max_le_iff (α := EReal)

/-- The running maximum, by its upper bounds. -/
theorem runMax_le (s : Dev nD) (b : EReal) (n : ℕ) :
    runMax X Wm s n ≤ b ↔ 0 ≤ b ∧ ∀ p < n, ∀ i j, Y x w (row s i) (col (rot (p / 4 + 1) s) (sub ⟨p % 4, Nat.mod_lt _ (by decide)⟩ j)) ≤ b := by
  induction n with
  | zero =>
    have : runMax X Wm s 0 = (0 : EReal) := ofBits_zero
    rw [this]
    exact ⟨fun h => ⟨h, fun p hp => absurd hp (Nat.not_lt_zero _)⟩, fun h => h.1⟩
  | succ n ih =>
    rw [runMax_succ, max_le, ih, blockMax_le]
    simp only [pay1_apply H]
    constructor
    · rintro ⟨⟨h0, h1⟩, h2⟩
      refine ⟨h0, fun p hp => ?_⟩
      rcases Nat.lt_succ_iff_lt_or_eq.1 hp with h | rfl
      · exact h1 p h
      · exact h2
    · rintro ⟨h0, h1⟩
      exact ⟨⟨h0, fun p hp => h1 p (Nat.lt_succ_of_lt hp)⟩, h1 n (Nat.lt_succ_self n)⟩

/-- The sixteen blocks are all of a device's entries. -/
theorem amaxOf_le (s : Dev nD) (b : EReal) : amaxOf X Wm s ≤ b ↔ 0 ≤ b ∧ ∀ i d j, Y x w (row s i) (col d j) ≤ b := by
  refine (runMax_le H s b 16).trans ⟨fun h => ⟨h.1, fun i d j => ?_⟩, fun h => ⟨h.1, fun p _ i j => h.2 _ _ _⟩⟩
  have hs : s.val < 4 := s.isLt
  have hd : d.val < 4 := d.isLt
  have hj := j.isLt
  have hp : 4 * ((d.val + 3 - s.val) % 4) + j.val / 512 < 16 := by omega
  have := h.2 _ hp i ⟨j.val % 512, Nat.mod_lt _ (by decide)⟩
  have e1 : rot ((4 * ((d.val + 3 - s.val) % 4) + j.val / 512) / 4 + 1) s = d := Fin.ext (by
    show (s.val + ((4 * ((d.val + 3 - s.val) % 4) + j.val / 512) / 4 + 1)) % 4 = d.val
    omega)
  have e2 : sub ⟨(4 * ((d.val + 3 - s.val) % 4) + j.val / 512) % 4, Nat.mod_lt _ (by decide)⟩ ⟨j.val % 512, Nat.mod_lt _ (by decide)⟩ = j := Fin.ext (by
    show 512 * ((4 * ((d.val + 3 - s.val) % 4) + j.val / 512) % 4) + j.val % 512 = j.val
    omega)
  rwa [e1, e2] at this

omit H in
theorem pay55_le (y : Vec Ideal S4x8x128 .f32) (b : EReal) : k0_pay55 (F := Ideal) y ≤ b ↔ ∀ i j k, y (ix3 i j k) ≤ b := by
  have e : k0_pay55 (F := Ideal) y = Finset.fold max (Ideal.ofBits .f32 0xFF800000#32) (fun x : S1x4x8x128.Idx => y (ix3 (x 1) (x 2) (x 3)))
      (Finset.univ.filter fun i => reduces_S1x4x8x128_S1.drop i = ix1 0) := by pointwise [k0_pay55]
  rw [e, ofBits_bot, Finset.fold_max_le]
  constructor
  · intro h i j k
    exact h.2 (ix4 0 i j k) (Finset.mem_filter.2 ⟨Finset.mem_univ _, funext fun a => by fin_cases a; exact Subsingleton.elim (α := Fin 1) _ _⟩)
  · intro h
    exact ⟨bot_le, fun i _ => h _ _ _⟩

/-- Every device sees the reference's largest entry. -/
theorem pay55_eq (c : Dev nD) : k0_pay55 (F := Ideal) (amaxVec X Wm c) = G x w := by
  have key (b : EReal) : k0_pay55 (F := Ideal) (amaxVec X Wm c) ≤ b ↔ G x w ≤ b := by
    rw [pay55_le, G_le_iff]
    have e : ∀ i j k, amaxVec X Wm c (ix3 i j k) = amaxOf X Wm i := fun _ _ _ => rfl
    simp only [e, amaxOf_le H]
    constructor
    · intro h i j
      have h1 : i = row ⟨i.val / 1024, by have := i.isLt; show _ < 4; omega⟩ ⟨i.val % 1024, Nat.mod_lt _ (by decide)⟩ := Fin.ext (by
        show i.val = 1024 * (i.val / 1024) + i.val % 1024; omega)
      have h2 : j = col ⟨j.val / 2048, by have := j.isLt; show _ < 4; omega⟩ ⟨j.val % 2048, Nat.mod_lt _ (by decide)⟩ := Fin.ext (by
        show j.val = 2048 * (j.val / 2048) + j.val % 2048; omega)
      rw [h1, h2]
      exact (h _ 0 0).2 _ _ _
    · intro h i _ _
      exact ⟨(Y_nonneg x w 0 0).trans (h 0 0), fun _ _ _ => h _ _⟩
  exact le_antisymm ((key _).2 le_rfl) ((key _).1 le_rfl)

omit H in
theorem pay56_apply (v : Vec Ideal S4x8x128 .f32) : k0_pay56 (F := Ideal) v = Ideal.div (k0_pay55 (F := Ideal) v) (127 : ℝ) := by
  rw [← ofBits_127, k0_pay56]
  exact Ideal.scalar_divf_def ..

omit H in
theorem pay57_apply (v : Vec Ideal S4x8x128 .f32) : k0_pay57 (F := Ideal) v = Ideal.div (127 : ℝ) (k0_pay55 (F := Ideal) v) := by
  rw [← ofBits_127, k0_pay57]
  exact Ideal.scalar_divf_def ..

omit H in
theorem pay58_apply (u v : EReal) (y : Vec Ideal S1x1024x2048 .bf16) (i : Fin 1024) (j : Fin 2048) :
    k0_pay58 (F := Ideal) u v y (ix2 i j) = min (Ideal.liftRound Ideal.roundHalfEven (y (ix3 0 i j) * v)) (127 : ℝ) * u := by
  rw [← ofBits_127]
  pointwise [k0_pay58]

theorem slot_apply (c s : Dev nD) (i : Fin 1024) (j : Fin 2048) : slotVec X Wm c s (ix3 0 i j) = Y x w (row s i) (col c j) := by
  rw [← data_apply H, slotVec, ix3_1, ix3_2]

/-- Entry (i, j) of what device c stores for the rows of device s. -/
theorem blockOut_apply (c s : Dev nD) (i : Fin 1024) (j : Fin 2048) :
    blockOut X Wm c s (ix2 i j) = refOut x w (ix2 (row s i) (col c j)) := by
  rw [refOut_apply, ← quant_eq _ _ (Y_nonneg x w _ _) (G_nonneg x w), blockOut, pay58_apply, slot_apply H, pay56_apply, pay57_apply, pay55_eq H]

end Cert.Val

end
-- ==== Proof.Algebraic.lean ====
/-
  The two results are one: the kernel's run and the reference's, joined by what each leaves at an entry.
-/
module

public import proofs.«01_k».proof.Defs
public import proofs.«01_k».proof.Proof.Run
public import proofs.«01_k».proof.Proof.KerValue

@[expose] public section

noncomputable section

namespace Cert.Val

open Idealize.ShloMosaic Idealize.ShloMosaic.TcCoe Idealize.SL.Sem
open Cert.KernelIdeal Cert.KernelIdeal.Gen Cert.KernelIdeal.Pf

/-- Before the kernel, @main casts x: at the extended reals it is x. -/
theorem V_main_v1 (m : (ℓ : Loc nD τ sig) → Buf (Elt Ideal) ℓ) (c : Dev nD) :
    V m c main_v1 = (m ((c : Thread nD τ).loc main_arg0) : S1024x4096.Idx → EReal) := by
  show StableHlo.after hostOps0 _ (Proc.devRef .tc main_v1) = _
  simp only [hostOps0]
  after_results
  rfl

/-- The block the kernel is given is the whole of it. -/
theorem Xv_apply (m : (ℓ : Loc nD τ sig) → Buf (Elt Ideal) ℓ) (c : Dev nD) (i : S1024x4096.Idx) :
    Xv m c i = (m ((c : Thread nD τ).loc main_arg0) : S1024x4096.Idx → EReal) i := by
  refine Eq.trans ?_ (congrFun (V_main_v1 m c) i)
  show V m c main_v1 _ = V m c main_v1 i
  refine congrArg (V m c main_v1) ?_
  funext a; refine Fin.ext ?_
  fin_cases a
  · show 0 * 1024 + 1 * (i 0).val = (i 0).val; omega
  · show 0 * 4096 + 1 * (i 1).val = (i 1).val; omega

theorem algebraic : Cert.algebraic_KernelIdeal_ReferenceIdeal := by
  intro m g m' g' _ hm
  have H : Holds (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (Xv m) (Wmv m) := by
    constructor
    · intro s i k
      rw [Xv_apply, (hm s).1, Layout.block_apply]
      refine congrArg (m' (((0 : Dev Cert.ReferenceIdeal.nD).tc : Thread Cert.ReferenceIdeal.nD Cert.ReferenceIdeal.τ).loc Cert.ReferenceIdeal.main_arg0)) ?_
      funext a; refine Fin.ext ?_
      fin_cases a
      · show s.val * 1024 + i.val = 1024 * s.val + i.val; omega
      · rfl
    · intro s
      exact (V_main_arg1 m s).trans (hm s).2
  refine ⟨refOut _ _, (θ_run Cert.KernelIdeal.defs _ _).mono (fun r h c => ⟨(h.1 c).2.2.trans ?_, (h.1 c).1, (h.1 c).2.1⟩) (run_main (F := Ideal) m g),
    (θ_run Cert.ReferenceIdeal.defs _ _).mono (fun r h => h 0) (Cert.ReferenceIdeal.Value.run (F := Ideal) m' g')⟩
  funext I
  refine (blockOut_apply H c (blk I) ⟨(I 0).val % 1024, Nat.mod_lt _ (by decide)⟩ (I 1)).trans (congrArg (refOut _ _) ?_)
  funext a; refine Fin.ext ?_
  fin_cases a
  · show 1024 * ((I 0).val / 1024) + (I 0).val % 1024 = (I 0).val; omega
  · show 2048 * c.val + (I 1).val = c.val * 2048 + (I 1).val; omega

end Cert.Val

end
-- ==== Proof.lean ====
/-
  The certificate: the kernel's run on four devices (Proof/Run) gives the frames (Proof/Frames), and with what its
  contents are at an entry (Proof/KerValue) and what the reference's are (Proof/RefValue) the algebraic claim
  (Proof/Algebraic).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, trivial, Cert.Val.algebraic⟩

end Cert.Proof

end
